-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v73_1)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_1) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v521) = v0 c
          ∧ r.2.mem ((c.tc : Thread Cert.ReferenceIdeal.nD Cert.ReferenceIdeal.τ).loc Cert.ReferenceIdeal.main_v519) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32x32x192 : Shape := ⟨4, ![4, 32, 32, 192]⟩
abbrev S1024x192 : Shape := ⟨2, ![1024, 192]⟩
abbrev S1024x192x192 : Shape := ⟨3, ![1024, 192, 192]⟩
abbrev S4x1024x192 : Shape := ⟨3, ![4, 1024, 192]⟩
abbrev S1024x4x192 : Shape := ⟨3, ![1024, 4, 192]⟩
abbrev S1024x4 : Shape := ⟨2, ![1024, 4]⟩
abbrev S128x4x192 : Shape := ⟨3, ![128, 4, 192]⟩
abbrev S128x192 : Shape := ⟨2, ![128, 192]⟩
abbrev S32x192x192 : Shape := ⟨3, ![32, 192, 192]⟩
abbrev S128x4 : Shape := ⟨2, ![128, 4]⟩
abbrev S128x1x192 : Shape := ⟨3, ![128, 1, 192]⟩
abbrev S32x4x192 : Shape := ⟨3, ![32, 4, 192]⟩
abbrev S32x4 : Shape := ⟨2, ![32, 4]⟩
abbrev S4x1024 : Shape := ⟨2, ![4, 1024]⟩
abbrev S4x32x32 : Shape := ⟨3, ![4, 32, 32]⟩
abbrev S512 : Shape := ⟨1, ![512]⟩
abbrev S_ : Shape := ⟨0, ![]⟩
abbrev S32 : Shape := ⟨1, ![32]⟩
abbrev S1x512 : Shape := ⟨2, ![1, 512]⟩
abbrev S32x1 : Shape := ⟨2, ![32, 1]⟩
abbrev S32x512 : Shape := ⟨2, ![32, 512]⟩
abbrev S512x32 : Shape := ⟨2, ![512, 32]⟩
abbrev S33 : Shape := ⟨1, ![33]⟩
abbrev S512x1 : Shape := ⟨2, ![512, 1]⟩
abbrev S1x33 : Shape := ⟨2, ![1, 33]⟩
abbrev S512x33 : Shape := ⟨2, ![512, 33]⟩
abbrev S512x33x1 : Shape := ⟨3, ![512, 33, 1]⟩
abbrev S1x1x512 : Shape := ⟨3, ![1, 1, 512]⟩
abbrev S512x33x512 : Shape := ⟨3, ![512, 33, 512]⟩
abbrev S1x33x1 : Shape := ⟨3, ![1, 33, 1]⟩
abbrev S512x512 : Shape := ⟨2, ![512, 512]⟩
abbrev S512x512x1 : Shape := ⟨3, ![512, 512, 1]⟩
abbrev S1x512x32 : Shape := ⟨3, ![1, 512, 32]⟩
abbrev S512x512x32 : Shape := ⟨3, ![512, 512, 32]⟩
abbrev S4x512x512 : Shape := ⟨3, ![4, 512, 512]⟩
abbrev S4x1 : Shape := ⟨2, ![4, 1]⟩
abbrev S1x32x32 : Shape := ⟨3, ![1, 32, 32]⟩
abbrev S32x32 : Shape := ⟨2, ![32, 32]⟩
abbrev S1x512x512 : Shape := ⟨3, ![1, 512, 512]⟩
abbrev S1 : Shape := ⟨1, ![1]⟩
abbrev S1x1x1 : Shape := ⟨3, ![1, 1, 1]⟩
abbrev S4 : Shape := ⟨1, ![4]⟩
abbrev S4x512x512x1 : Shape := ⟨4, ![4, 512, 512, 1]⟩

abbrev nBuf : Space → Nat
  | .hbm => 98
  | .vmem => 19
  | .smem => 0
  | _ => 0

abbrev bufTy : (tb : Table) → Fin (tcTables nBuf tb) → BufTy
  | .hbm, ⟨0, _⟩ => ⟨S4x32x32x192, .f32⟩
  | .hbm, ⟨1, _⟩ => ⟨S1024x192, .f32⟩
  | .hbm, ⟨2, _⟩ => ⟨S1024x192x192, .f32⟩
  | .hbm, ⟨3, _⟩ => ⟨S4x1024x192, .f32⟩
  | .hbm, ⟨4, _⟩ => ⟨S1024x4x192, .f32⟩
  | .hbm, ⟨5, _⟩ => ⟨S1024x4, .f32⟩
  | .hbm, ⟨6, _⟩ => ⟨S4x1024, .f32⟩
  | .hbm, ⟨7, _⟩ => ⟨S4x32x32, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S32, .f32⟩
  | .hbm, ⟨19, _⟩ => ⟨S1x512, .f32⟩
  | .hbm, ⟨20, _⟩ => ⟨S32x1, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S_, .f32⟩
  | .hbm, ⟨26, _⟩ => ⟨S32x512, .f32⟩
  | .hbm, ⟨27, _⟩ => ⟨S32x512, .f32⟩
  | .hbm, ⟨28, _⟩ => ⟨S_, .f32⟩
  | .hbm, ⟨29, _⟩ => ⟨S32x512, .f32⟩
  | .hbm, ⟨30, _⟩ => ⟨S32x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S32x512, .f32⟩
  | .hbm, ⟨35, _⟩ => ⟨S32x512, .f32⟩
  | .hbm, ⟨36, _⟩ => ⟨S512x32, .f32⟩
  | .hbm, ⟨37, _⟩ => ⟨S33, .f32⟩
  | .hbm, ⟨38, _⟩ => ⟨S_, .f32⟩
  | .hbm, ⟨39, _⟩ => ⟨S33, .f32⟩
  | .hbm, ⟨40, _⟩ => ⟨S33, .f32⟩
  | .hbm, ⟨41, _⟩ => ⟨S33, .f32⟩
  | .hbm, ⟨42, _⟩ => ⟨S33, .f32⟩
  | .hbm, ⟨43, _⟩ => ⟨S_, .f32⟩
  | .hbm, ⟨44, _⟩ => ⟨S33, .f32⟩
  | .hbm, ⟨45, _⟩ => ⟨S33, .f32⟩
  | .hbm, ⟨46, _⟩ => ⟨S33, .f32⟩
  | .hbm, ⟨47, _⟩ => ⟨S_, .f32⟩
  | .hbm, ⟨48, _⟩ => ⟨S_, .f32⟩
  | .hbm, ⟨49, _⟩ => ⟨S33, .f32⟩
  | .hbm, ⟨50, _⟩ => ⟨S33, .f32⟩
  | .hbm, ⟨51, _⟩ => ⟨S512, .i32⟩
  | .hbm, ⟨52, _⟩ => ⟨S512x1, .i32⟩
  | .hbm, ⟨53, _⟩ => ⟨S_, .i32⟩
  | .hbm, ⟨54, _⟩ => ⟨S512x1, .i32⟩
  | .hbm, ⟨55, _⟩ => ⟨S512x1, .i32⟩
  | .hbm, ⟨56, _⟩ => ⟨S33, .i32⟩
  | .hbm, ⟨57, _⟩ => ⟨S1x33, .i32⟩
  | .hbm, ⟨58, _⟩ => ⟨S512x33, .i32⟩
  | .hbm, ⟨59, _⟩ => ⟨S512x33, .i32⟩
  | .hbm, ⟨60, _⟩ => ⟨S512x33, .i32⟩
  | .hbm, ⟨61, _⟩ => ⟨S_, .i32⟩
  | .hbm, ⟨62, _⟩ => ⟨S512x33, .i32⟩
  | .hbm, ⟨63, _⟩ => ⟨S512x33, .i1⟩
  | .hbm, ⟨64, _⟩ => ⟨S512x33, .i32⟩
  | .hbm, ⟨65, _⟩ => ⟨S_, .i32⟩
  | .hbm, ⟨66, _⟩ => ⟨S512x33, .i32⟩
  | .hbm, ⟨67, _⟩ => ⟨S512x33, .i1⟩
  | .hbm, ⟨68, _⟩ => ⟨S_, .i32⟩
  | .hbm, ⟨69, _⟩ => ⟨S512x33, .i32⟩
  | .hbm, ⟨70, _⟩ => ⟨S512x33, .i32⟩
  | .hbm, ⟨71, _⟩ => ⟨S512x33, .i32⟩
  | .hbm, ⟨72, _⟩ => ⟨S512x33, .i32⟩
  | .hbm, ⟨73, _⟩ => ⟨S512x33x1, .i32⟩
  | .hbm, ⟨74, _⟩ => ⟨S512, .i32⟩
  | .hbm, ⟨75, _⟩ => ⟨S1x1x512, .i32⟩
  | .hbm, ⟨76, _⟩ => ⟨S512x33x512, .i32⟩
  | .hbm, ⟨77, _⟩ => ⟨S512x33x512, .i32⟩
  | .hbm, ⟨78, _⟩ => ⟨S512x33x512, .i1⟩
  | .hbm, ⟨79, _⟩ => ⟨S1x33x1, .f32⟩
  | .hbm, ⟨80, _⟩ => ⟨S_, .f32⟩
  | .hbm, ⟨81, _⟩ => ⟨S_, .f32⟩
  | .hbm, ⟨82, _⟩ => ⟨S512x33x512, .f32⟩
  | .hbm, ⟨83, _⟩ => ⟨S512x33x512, .f32⟩
  | .hbm, ⟨84, _⟩ => ⟨S512x33x512, .f32⟩
  | .hbm, ⟨85, _⟩ => ⟨S_, .f32⟩
  | .hbm, ⟨86, _⟩ => ⟨S512x512, .f32⟩
  | .hbm, ⟨87, _⟩ => ⟨S512x512x1, .f32⟩
  | .hbm, ⟨88, _⟩ => ⟨S1x512x32, .f32⟩
  | .hbm, ⟨89, _⟩ => ⟨S512x512x32, .f32⟩
  | .hbm, ⟨90, _⟩ => ⟨S512x512x32, .f32⟩
  | .hbm, ⟨91, _⟩ => ⟨S512x512x32, .f32⟩
  | .hbm, ⟨92, _⟩ => ⟨S_, .f32⟩
  | .hbm, ⟨93, _⟩ => ⟨S512x32, .f32⟩
  | .hbm, ⟨94, _⟩ => ⟨S32x512, .f32⟩
  | .hbm, ⟨95, _⟩ => ⟨S4x512x512, .f32⟩
  | .hbm, ⟨96, _⟩ => ⟨S4x1, .f32⟩
  | .hbm, ⟨97, _⟩ => ⟨S4x512x512x1, .f32⟩
  | .local _ .vmem, ⟨0, _⟩ => ⟨S128x4x192, .f32⟩
  | .local _ .vmem, ⟨1, _⟩ => ⟨S128x4x192, .f32⟩
  | .local _ .vmem, ⟨2, _⟩ => ⟨S128x192, .f32⟩
  | .local _ .vmem, ⟨3, _⟩ => ⟨S128x192, .f32⟩
  | .local _ .vmem, ⟨4, _⟩ => ⟨S32x192x192, .f32⟩
  | .local _ .vmem, ⟨5, _⟩ => ⟨S32x192x192, .f32⟩
  | .local _ .vmem, ⟨6, _⟩ => ⟨S32x192x192, .f32⟩
  | .local _ .vmem, ⟨7, _⟩ => ⟨S32x192x192, .f32⟩
  | .local _ .vmem, ⟨8, _⟩ => ⟨S32x192x192, .f32⟩
  | .local _ .vmem, ⟨9, _⟩ => ⟨S32x192x192, .f32⟩
  | .local _ .vmem, ⟨10, _⟩ => ⟨S32x192x192, .f32⟩
  | .local _ .vmem, ⟨11, _⟩ => ⟨S32x192x192, .f32⟩
  | .local _ .vmem, ⟨12, _⟩ => ⟨S128x4, .f32⟩
  | .local _ .vmem, ⟨13, _⟩ => ⟨S128x4, .f32⟩
  | .local _ .vmem, ⟨14, _⟩ => ⟨S4x32x32, .f32⟩
  | .local _ .vmem, ⟨15, _⟩ => ⟨S512x32, .f32⟩
  | .local _ .vmem, ⟨16, _⟩ => ⟨S32x512, .f32⟩
  | .local _ .vmem, ⟨17, _⟩ => ⟨S4x512x512, .f32⟩
  | .local _ .vmem, ⟨18, _⟩ => ⟨S4x1, .f32⟩
  | _, _ => ⟨S4x32x32x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_9 : Ref sig .tc := ⟨.hbm, 65, rfl⟩
abbrev main_v51 : Ref sig .tc := ⟨.hbm, 66, rfl⟩
abbrev main_v52 : Ref sig .tc := ⟨.hbm, 67, rfl⟩
abbrev main_c_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_v72 : Ref sig .tc := ⟨.hbm, 94, rfl⟩
abbrev main_v73_0 : Ref sig .tc := ⟨.hbm, 95, rfl⟩
abbrev main_v73_1 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x192x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x192x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S4x32x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S4x32x32x192 : Shape := ⟨4, ![4, 32, 32, 192]⟩
abbrev S1024x192 : Shape := ⟨2, ![1024, 192]⟩
abbrev S1024x192x192 : Shape := ⟨3, ![1024, 192, 192]⟩
abbrev S4x1024x192 : Shape := ⟨3, ![4, 1024, 192]⟩
abbrev S1x1024x192 : Shape := ⟨3, ![1, 1024, 192]⟩
abbrev S1024x192x4 : Shape := ⟨3, ![1024, 192, 4]⟩
abbrev S4x1024 : Shape := ⟨2, ![4, 1024]⟩
abbrev S_ : Shape := ⟨0, ![]⟩
abbrev S4x32x32x1 : Shape := ⟨4, ![4, 32, 32, 1]⟩
abbrev S512 : Shape := ⟨1, ![512]⟩
abbrev S32 : Shape := ⟨1, ![32]⟩
abbrev S1x512 : Shape := ⟨2, ![1, 512]⟩
abbrev S32x1 : Shape := ⟨2, ![32, 1]⟩
abbrev S32x512 : Shape := ⟨2, ![32, 512]⟩
abbrev S512x4x32x1 : Shape := ⟨4, ![512, 4, 32, 1]⟩
abbrev S512x4x1x512 : Shape := ⟨4, ![512, 4, 1, 512]⟩
abbrev S4x512x512x1 : Shape := ⟨4, ![4, 512, 512, 1]⟩
abbrev S33 : Shape := ⟨1, ![33]⟩
abbrev S4x1x512x1 : Shape := ⟨4, ![4, 1, 512, 1]⟩
abbrev S4x16x512x1 : Shape := ⟨4, ![4, 16, 512, 1]⟩
abbrev S4x528x512x1 : Shape := ⟨4, ![4, 528, 512, 1]⟩
abbrev S4x544x512x1 : Shape := ⟨4, ![4, 544, 512, 1]⟩
abbrev S1 : Shape := ⟨1, ![1]⟩
abbrev S4x512x1x1 : Shape := ⟨4, ![4, 512, 1, 1]⟩
abbrev S4x512x16x1 : Shape := ⟨4, ![4, 512, 16, 1]⟩
abbrev S4x512x528x1 : Shape := ⟨4, ![4, 512, 528, 1]⟩
abbrev S4x512x544x1 : Shape := ⟨4, ![4, 512, 544, 1]⟩
abbrev S4 : Shape := ⟨1, ![4]⟩
abbrev S4x1 : Shape := ⟨2, ![4, 1]⟩

abbrev nBuf : Space → Nat
  | .hbm => 580
  | .vmem => 0
  | .smem => 0
  | _ => 0

abbrev hbmTy0_0 (i : Nat) : BufTy := match i % 128 with
  | 0 => ⟨S4x32x32x192, .f32⟩
  | 1 => ⟨S1024x192, .f32⟩
  | 2 => ⟨S1024x192x192, .f32⟩
  | 3 => ⟨S4x1024x192, .f32⟩
  | 4 => ⟨S1x1024x192, .f32⟩
  | 5 => ⟨S4x1024x192, .f32⟩
  | 6 => ⟨S4x1024x192, .f32⟩
  | 7 => ⟨S1024x192x4, .f32⟩
  | 8 => ⟨S4x1024, .f32⟩
  | 9 => ⟨S_, .f32⟩
  | 10 => ⟨S4x1024, .f32⟩
  | 11 => ⟨S4x1024, .f32⟩
  | 12 => ⟨S4x1024, .f32⟩
  | 13 => ⟨S4x32x32x1, .f32⟩
  | 14 => ⟨S_, .f32⟩
  | 15 => ⟨S_, .f32⟩
  | 16 => ⟨S_, .f32⟩
  | 17 => ⟨S512, .f32⟩
  | 18 => ⟨S_, .f32⟩
  | 19 => ⟨S512, .f32⟩
  | 20 => ⟨S512, .f32⟩
  | 21 => ⟨S_, .f32⟩
  | 22 => ⟨S512, .f32⟩
  | 23 => ⟨S512, .f32⟩
  | 24 => ⟨S_, .f32⟩
  | 25 => ⟨S512, .f32⟩
  | 26 => ⟨S512, .f32⟩
  | 27 => ⟨S_, .f32⟩
  | 28 => ⟨S512, .f32⟩
  | 29 => ⟨S512, .f32⟩
  | 30 => ⟨S32, .f32⟩
  | 31 => ⟨S1x512, .f32⟩
  | 32 => ⟨S32x1, .f32⟩
  | 33 => ⟨S32x512, .f32⟩
  | 34 => ⟨S32x512, .f32⟩
  | 35 => ⟨S32x512, .f32⟩
  | 36 => ⟨S32x512, .f32⟩
  | 37 => ⟨S_, .f32⟩
  | 38 => ⟨S32x512, .f32⟩
  | 39 => ⟨S32x512, .f32⟩
  | 40 => ⟨S32x512, .f32⟩
  | 41 => ⟨S_, .f32⟩
  | 42 => ⟨S32x512, .f32⟩
  | 43 => ⟨S32x512, .f32⟩
  | 44 => ⟨S_, .f32⟩
  | 45 => ⟨S32x512, .f32⟩
  | 46 => ⟨S32x512, .f32⟩
  | 47 => ⟨S_, .f32⟩
  | 48 => ⟨S512, .f32⟩
  | 49 => ⟨S1x512, .f32⟩
  | 50 => ⟨S1x512, .f32⟩
  | 51 => ⟨S_, .f32⟩
  | 52 => ⟨S1x512, .f32⟩
  | 53 => ⟨S1x512, .i1⟩
  | 54 => ⟨S_, .f32⟩
  | 55 => ⟨S1x512, .f32⟩
  | 56 => ⟨S1x512, .i1⟩
  | 57 => ⟨S_, .f32⟩
  | 58 => ⟨S1x512, .f32⟩
  | 59 => ⟨S1x512, .f32⟩
  | 60 => ⟨S32x512, .f32⟩
  | 61 => ⟨S32x512, .f32⟩
  | 62 => ⟨S32x512, .i1⟩
  | 63 => ⟨S_, .f32⟩
  | 64 => ⟨S32x512, .f32⟩
  | 65 => ⟨S32x512, .f32⟩
  | 66 => ⟨S_, .f32⟩
  | 67 => ⟨S512, .f32⟩
  | 68 => ⟨S512, .i1⟩
  | 69 => ⟨S_, .f32⟩
  | 70 => ⟨S512, .f32⟩
  | 71 => ⟨S512, .i1⟩
  | 72 => ⟨S512, .i1⟩
  | 73 => ⟨S1x512, .i1⟩
  | 74 => ⟨S32x512, .i1⟩
  | 75 => ⟨S_, .f32⟩
  | 76 => ⟨S32x512, .f32⟩
  | 77 => ⟨S32x512, .f32⟩
  | 78 => ⟨S_, .f32⟩
  | 79 => ⟨S_, .f32⟩
  | 80 => ⟨S_, .f32⟩
  | 81 => ⟨S512, .f32⟩
  | 82 => ⟨S_, .f32⟩
  | 83 => ⟨S512, .f32⟩
  | 84 => ⟨S512, .f32⟩
  | 85 => ⟨S_, .f32⟩
  | 86 => ⟨S512, .f32⟩
  | 87 => ⟨S512, .f32⟩
  | 88 => ⟨S_, .f32⟩
  | 89 => ⟨S512, .f32⟩
  | 90 => ⟨S512, .f32⟩
  | 91 => ⟨S_, .f32⟩
  | 92 => ⟨S512, .f32⟩
  | 93 => ⟨S512, .f32⟩
  | 94 => ⟨S32, .f32⟩
  | 95 => ⟨S1x512, .f32⟩
  | 96 => ⟨S32x1, .f32⟩
  | 97 => ⟨S32x512, .f32⟩
  | 98 => ⟨S32x512, .f32⟩
  | 99 => ⟨S32x512, .f32⟩
  | 100 => ⟨S32x512, .f32⟩
  | 101 => ⟨S_, .f32⟩
  | 102 => ⟨S32x512, .f32⟩
  | 103 => ⟨S32x512, .f32⟩
  | 104 => ⟨S32x512, .f32⟩
  | 105 => ⟨S_, .f32⟩
  | 106 => ⟨S32x512, .f32⟩
  | 107 => ⟨S32x512, .f32⟩
  | 108 => ⟨S_, .f32⟩
  | 109 => ⟨S32x512, .f32⟩
  | 110 => ⟨S32x512, .f32⟩
  | 111 => ⟨S_, .f32⟩
  | 112 => ⟨S512, .f32⟩
  | 113 => ⟨S1x512, .f32⟩
  | 114 => ⟨S1x512, .f32⟩
  | 115 => ⟨S_, .f32⟩
  | 116 => ⟨S1x512, .f32⟩
  | 117 => ⟨S1x512, .i1⟩
  | 118 => ⟨S_, .f32⟩
  | 119 => ⟨S1x512, .f32⟩
  | 120 => ⟨S1x512, .i1⟩
  | 121 => ⟨S_, .f32⟩
  | 122 => ⟨S1x512, .f32⟩
  | 123 => ⟨S1x512, .f32⟩
  | 124 => ⟨S32x512, .f32⟩
  | 125 => ⟨S32x512, .f32⟩
  | 126 => ⟨S32x512, .i1⟩
  | 127 => ⟨S_, .f32⟩
  | _ => ⟨S4x32x32x192, .f32⟩

abbrev hbmTy0_1 (i : Nat) : BufTy := match i % 128 with
  | 0 => ⟨S32x512, .f32⟩
  | 1 => ⟨S32x512, .f32⟩
  | 2 => ⟨S_, .f32⟩
  | 3 => ⟨S512, .f32⟩
  | 4 => ⟨S512, .i1⟩
  | 5 => ⟨S_, .f32⟩
  | 6 => ⟨S512, .f32⟩
  | 7 => ⟨S512, .i1⟩
  | 8 => ⟨S512, .i1⟩
  | 9 => ⟨S1x512, .i1⟩
  | 10 => ⟨S32x512, .i1⟩
  | 11 => ⟨S_, .f32⟩
  | 12 => ⟨S32x512, .f32⟩
  | 13 => ⟨S32x512, .f32⟩
  | 14 => ⟨S512x4x32x1, .f32⟩
  | 15 => ⟨S512x4x1x512, .f32⟩
  | 16 => ⟨S4x512x512x1, .f32⟩
  | 17 => ⟨S33, .f32⟩
  | 18 => ⟨S_, .f32⟩
  | 19 => ⟨S33, .f32⟩
  | 20 => ⟨S33, .f32⟩
  | 21 => ⟨S33, .f32⟩
  | 22 => ⟨S33, .f32⟩
  | 23 => ⟨S_, .f32⟩
  | 24 => ⟨S33, .f32⟩
  | 25 => ⟨S33, .f32⟩
  | 26 => ⟨S33, .f32⟩
  | 27 => ⟨S_, .f32⟩
  | 28 => ⟨S_, .f32⟩
  | 29 => ⟨S33, .f32⟩
  | 30 => ⟨S33, .f32⟩
  | 31 => ⟨S_, .i32⟩
  | 32 => ⟨S4x1x512x1, .f32⟩
  | 33 => ⟨S4x16x512x1, .f32⟩
  | 34 => ⟨S4x16x512x1, .f32⟩
  | 35 => ⟨S4x528x512x1, .f32⟩
  | 36 => ⟨S4x1x512x1, .f32⟩
  | 37 => ⟨S4x16x512x1, .f32⟩
  | 38 => ⟨S4x16x512x1, .f32⟩
  | 39 => ⟨S4x544x512x1, .f32⟩
  | 40 => ⟨S1, .f32⟩
  | 41 => ⟨S_, .f32⟩
  | 42 => ⟨S4x512x512x1, .f32⟩
  | 43 => ⟨S4x512x512x1, .f32⟩
  | 44 => ⟨S4x512x512x1, .f32⟩
  | 45 => ⟨S_, .f32⟩
  | 46 => ⟨S4x512x512x1, .f32⟩
  | 47 => ⟨S4x512x512x1, .f32⟩
  | 48 => ⟨S1, .f32⟩
  | 49 => ⟨S_, .f32⟩
  | 50 => ⟨S4x512x512x1, .f32⟩
  | 51 => ⟨S4x512x512x1, .f32⟩
  | 52 => ⟨S4x512x512x1, .f32⟩
  | 53 => ⟨S4x512x512x1, .f32⟩
  | 54 => ⟨S1, .f32⟩
  | 55 => ⟨S_, .f32⟩
  | 56 => ⟨S4x512x512x1, .f32⟩
  | 57 => ⟨S4x512x512x1, .f32⟩
  | 58 => ⟨S4x512x512x1, .f32⟩
  | 59 => ⟨S4x512x512x1, .f32⟩
  | 60 => ⟨S1, .f32⟩
  | 61 => ⟨S_, .f32⟩
  | 62 => ⟨S4x512x512x1, .f32⟩
  | 63 => ⟨S4x512x512x1, .f32⟩
  | 64 => ⟨S4x512x512x1, .f32⟩
  | 65 => ⟨S4x512x512x1, .f32⟩
  | 66 => ⟨S1, .f32⟩
  | 67 => ⟨S_, .f32⟩
  | 68 => ⟨S4x512x512x1, .f32⟩
  | 69 => ⟨S4x512x512x1, .f32⟩
  | 70 => ⟨S4x512x512x1, .f32⟩
  | 71 => ⟨S4x512x512x1, .f32⟩
  | 72 => ⟨S1, .f32⟩
  | 73 => ⟨S_, .f32⟩
  | 74 => ⟨S4x512x512x1, .f32⟩
  | 75 => ⟨S4x512x512x1, .f32⟩
  | 76 => ⟨S4x512x512x1, .f32⟩
  | 77 => ⟨S4x512x512x1, .f32⟩
  | 78 => ⟨S1, .f32⟩
  | 79 => ⟨S_, .f32⟩
  | 80 => ⟨S4x512x512x1, .f32⟩
  | 81 => ⟨S4x512x512x1, .f32⟩
  | 82 => ⟨S4x512x512x1, .f32⟩
  | 83 => ⟨S4x512x512x1, .f32⟩
  | 84 => ⟨S1, .f32⟩
  | 85 => ⟨S_, .f32⟩
  | 86 => ⟨S4x512x512x1, .f32⟩
  | 87 => ⟨S4x512x512x1, .f32⟩
  | 88 => ⟨S4x512x512x1, .f32⟩
  | 89 => ⟨S4x512x512x1, .f32⟩
  | 90 => ⟨S1, .f32⟩
  | 91 => ⟨S_, .f32⟩
  | 92 => ⟨S4x512x512x1, .f32⟩
  | 93 => ⟨S4x512x512x1, .f32⟩
  | 94 => ⟨S4x512x512x1, .f32⟩
  | 95 => ⟨S4x512x512x1, .f32⟩
  | 96 => ⟨S1, .f32⟩
  | 97 => ⟨S_, .f32⟩
  | 98 => ⟨S4x512x512x1, .f32⟩
  | 99 => ⟨S4x512x512x1, .f32⟩
  | 100 => ⟨S4x512x512x1, .f32⟩
  | 101 => ⟨S4x512x512x1, .f32⟩
  | 102 => ⟨S1, .f32⟩
  | 103 => ⟨S_, .f32⟩
  | 104 => ⟨S4x512x512x1, .f32⟩
  | 105 => ⟨S4x512x512x1, .f32⟩
  | 106 => ⟨S4x512x512x1, .f32⟩
  | 107 => ⟨S4x512x512x1, .f32⟩
  | 108 => ⟨S1, .f32⟩
  | 109 => ⟨S_, .f32⟩
  | 110 => ⟨S4x512x512x1, .f32⟩
  | 111 => ⟨S4x512x512x1, .f32⟩
  | 112 => ⟨S4x512x512x1, .f32⟩
  | 113 => ⟨S4x512x512x1, .f32⟩
  | 114 => ⟨S1, .f32⟩
  | 115 => ⟨S_, .f32⟩
  | 116 => ⟨S4x512x512x1, .f32⟩
  | 117 => ⟨S4x512x512x1, .f32⟩
  | 118 => ⟨S4x512x512x1, .f32⟩
  | 119 => ⟨S4x512x512x1, .f32⟩
  | 120 => ⟨S1, .f32⟩
  | 121 => ⟨S_, .f32⟩
  | 122 => ⟨S4x512x512x1, .f32⟩
  | 123 => ⟨S4x512x512x1, .f32⟩
  | 124 => ⟨S4x512x512x1, .f32⟩
  | 125 => ⟨S4x512x512x1, .f32⟩
  | 126 => ⟨S1, .f32⟩
  | 127 => ⟨S_, .f32⟩
  | _ => ⟨S4x32x32x192, .f32⟩

abbrev hbmTy0_2 (i : Nat) : BufTy := match i % 128 with
  | 0 => ⟨S4x512x512x1, .f32⟩
  | 1 => ⟨S4x512x512x1, .f32⟩
  | 2 => ⟨S4x512x512x1, .f32⟩
  | 3 => ⟨S4x512x512x1, .f32⟩
  | 4 => ⟨S1, .f32⟩
  | 5 => ⟨S_, .f32⟩
  | 6 => ⟨S4x512x512x1, .f32⟩
  | 7 => ⟨S4x512x512x1, .f32⟩
  | 8 => ⟨S4x512x512x1, .f32⟩
  | 9 => ⟨S4x512x512x1, .f32⟩
  | 10 => ⟨S1, .f32⟩
  | 11 => ⟨S_, .f32⟩
  | 12 => ⟨S4x512x512x1, .f32⟩
  | 13 => ⟨S4x512x512x1, .f32⟩
  | 14 => ⟨S4x512x512x1, .f32⟩
  | 15 => ⟨S4x512x512x1, .f32⟩
  | 16 => ⟨S1, .f32⟩
  | 17 => ⟨S_, .f32⟩
  | 18 => ⟨S4x512x512x1, .f32⟩
  | 19 => ⟨S4x512x512x1, .f32⟩
  | 20 => ⟨S4x512x512x1, .f32⟩
  | 21 => ⟨S4x512x512x1, .f32⟩
  | 22 => ⟨S1, .f32⟩
  | 23 => ⟨S_, .f32⟩
  | 24 => ⟨S4x512x512x1, .f32⟩
  | 25 => ⟨S4x512x512x1, .f32⟩
  | 26 => ⟨S4x512x512x1, .f32⟩
  | 27 => ⟨S4x512x512x1, .f32⟩
  | 28 => ⟨S1, .f32⟩
  | 29 => ⟨S_, .f32⟩
  | 30 => ⟨S4x512x512x1, .f32⟩
  | 31 => ⟨S4x512x512x1, .f32⟩
  | 32 => ⟨S4x512x512x1, .f32⟩
  | 33 => ⟨S4x512x512x1, .f32⟩
  | 34 => ⟨S1, .f32⟩
  | 35 => ⟨S_, .f32⟩
  | 36 => ⟨S4x512x512x1, .f32⟩
  | 37 => ⟨S4x512x512x1, .f32⟩
  | 38 => ⟨S4x512x512x1, .f32⟩
  | 39 => ⟨S4x512x512x1, .f32⟩
  | 40 => ⟨S1, .f32⟩
  | 41 => ⟨S_, .f32⟩
  | 42 => ⟨S4x512x512x1, .f32⟩
  | 43 => ⟨S4x512x512x1, .f32⟩
  | 44 => ⟨S4x512x512x1, .f32⟩
  | 45 => ⟨S4x512x512x1, .f32⟩
  | 46 => ⟨S1, .f32⟩
  | 47 => ⟨S_, .f32⟩
  | 48 => ⟨S4x512x512x1, .f32⟩
  | 49 => ⟨S4x512x512x1, .f32⟩
  | 50 => ⟨S4x512x512x1, .f32⟩
  | 51 => ⟨S4x512x512x1, .f32⟩
  | 52 => ⟨S1, .f32⟩
  | 53 => ⟨S_, .f32⟩
  | 54 => ⟨S4x512x512x1, .f32⟩
  | 55 => ⟨S4x512x512x1, .f32⟩
  | 56 => ⟨S4x512x512x1, .f32⟩
  | 57 => ⟨S4x512x512x1, .f32⟩
  | 58 => ⟨S1, .f32⟩
  | 59 => ⟨S_, .f32⟩
  | 60 => ⟨S4x512x512x1, .f32⟩
  | 61 => ⟨S4x512x512x1, .f32⟩
  | 62 => ⟨S4x512x512x1, .f32⟩
  | 63 => ⟨S4x512x512x1, .f32⟩
  | 64 => ⟨S1, .f32⟩
  | 65 => ⟨S_, .f32⟩
  | 66 => ⟨S4x512x512x1, .f32⟩
  | 67 => ⟨S4x512x512x1, .f32⟩
  | 68 => ⟨S4x512x512x1, .f32⟩
  | 69 => ⟨S4x512x512x1, .f32⟩
  | 70 => ⟨S1, .f32⟩
  | 71 => ⟨S_, .f32⟩
  | 72 => ⟨S4x512x512x1, .f32⟩
  | 73 => ⟨S4x512x512x1, .f32⟩
  | 74 => ⟨S4x512x512x1, .f32⟩
  | 75 => ⟨S4x512x512x1, .f32⟩
  | 76 => ⟨S1, .f32⟩
  | 77 => ⟨S_, .f32⟩
  | 78 => ⟨S4x512x512x1, .f32⟩
  | 79 => ⟨S4x512x512x1, .f32⟩
  | 80 => ⟨S4x512x512x1, .f32⟩
  | 81 => ⟨S4x512x512x1, .f32⟩
  | 82 => ⟨S1, .f32⟩
  | 83 => ⟨S_, .f32⟩
  | 84 => ⟨S4x512x512x1, .f32⟩
  | 85 => ⟨S4x512x512x1, .f32⟩
  | 86 => ⟨S4x512x512x1, .f32⟩
  | 87 => ⟨S4x512x512x1, .f32⟩
  | 88 => ⟨S1, .f32⟩
  | 89 => ⟨S_, .f32⟩
  | 90 => ⟨S4x512x512x1, .f32⟩
  | 91 => ⟨S4x512x512x1, .f32⟩
  | 92 => ⟨S4x512x512x1, .f32⟩
  | 93 => ⟨S4x512x512x1, .f32⟩
  | 94 => ⟨S1, .f32⟩
  | 95 => ⟨S_, .f32⟩
  | 96 => ⟨S4x512x512x1, .f32⟩
  | 97 => ⟨S4x512x512x1, .f32⟩
  | 98 => ⟨S4x512x512x1, .f32⟩
  | 99 => ⟨S4x512x512x1, .f32⟩
  | 100 => ⟨S1, .f32⟩
  | 101 => ⟨S_, .f32⟩
  | 102 => ⟨S4x512x512x1, .f32⟩
  | 103 => ⟨S4x512x512x1, .f32⟩
  | 104 => ⟨S4x512x512x1, .f32⟩
  | 105 => ⟨S4x512x512x1, .f32⟩
  | 106 => ⟨S1, .f32⟩
  | 107 => ⟨S_, .f32⟩
  | 108 => ⟨S4x512x512x1, .f32⟩
  | 109 => ⟨S4x512x512x1, .f32⟩
  | 110 => ⟨S4x512x512x1, .f32⟩
  | 111 => ⟨S4x512x512x1, .f32⟩
  | 112 => ⟨S_, .i32⟩
  | 113 => ⟨S4x512x1x1, .f32⟩
  | 114 => ⟨S4x512x16x1, .f32⟩
  | 115 => ⟨S4x512x16x1, .f32⟩
  | 116 => ⟨S4x512x528x1, .f32⟩
  | 117 => ⟨S4x512x1x1, .f32⟩
  | 118 => ⟨S4x512x16x1, .f32⟩
  | 119 => ⟨S4x512x16x1, .f32⟩
  | 120 => ⟨S4x512x544x1, .f32⟩
  | 121 => ⟨S1, .f32⟩
  | 122 => ⟨S_, .f32⟩
  | 123 => ⟨S4x512x512x1, .f32⟩
  | 124 => ⟨S4x512x512x1, .f32⟩
  | 125 => ⟨S4x512x512x1, .f32⟩
  | 126 => ⟨S_, .f32⟩
  | 127 => ⟨S4x512x512x1, .f32⟩
  | _ => ⟨S4x32x32x192, .f32⟩

abbrev hbmTy0_3 (i : Nat) : BufTy := match i % 128 with
  | 0 => ⟨S4x512x512x1, .f32⟩
  | 1 => ⟨S1, .f32⟩
  | 2 => ⟨S_, .f32⟩
  | 3 => ⟨S4x512x512x1, .f32⟩
  | 4 => ⟨S4x512x512x1, .f32⟩
  | 5 => ⟨S4x512x512x1, .f32⟩
  | 6 => ⟨S4x512x512x1, .f32⟩
  | 7 => ⟨S1, .f32⟩
  | 8 => ⟨S_, .f32⟩
  | 9 => ⟨S4x512x512x1, .f32⟩
  | 10 => ⟨S4x512x512x1, .f32⟩
  | 11 => ⟨S4x512x512x1, .f32⟩
  | 12 => ⟨S4x512x512x1, .f32⟩
  | 13 => ⟨S1, .f32⟩
  | 14 => ⟨S_, .f32⟩
  | 15 => ⟨S4x512x512x1, .f32⟩
  | 16 => ⟨S4x512x512x1, .f32⟩
  | 17 => ⟨S4x512x512x1, .f32⟩
  | 18 => ⟨S4x512x512x1, .f32⟩
  | 19 => ⟨S1, .f32⟩
  | 20 => ⟨S_, .f32⟩
  | 21 => ⟨S4x512x512x1, .f32⟩
  | 22 => ⟨S4x512x512x1, .f32⟩
  | 23 => ⟨S4x512x512x1, .f32⟩
  | 24 => ⟨S4x512x512x1, .f32⟩
  | 25 => ⟨S1, .f32⟩
  | 26 => ⟨S_, .f32⟩
  | 27 => ⟨S4x512x512x1, .f32⟩
  | 28 => ⟨S4x512x512x1, .f32⟩
  | 29 => ⟨S4x512x512x1, .f32⟩
  | 30 => ⟨S4x512x512x1, .f32⟩
  | 31 => ⟨S1, .f32⟩
  | 32 => ⟨S_, .f32⟩
  | 33 => ⟨S4x512x512x1, .f32⟩
  | 34 => ⟨S4x512x512x1, .f32⟩
  | 35 => ⟨S4x512x512x1, .f32⟩
  | 36 => ⟨S4x512x512x1, .f32⟩
  | 37 => ⟨S1, .f32⟩
  | 38 => ⟨S_, .f32⟩
  | 39 => ⟨S4x512x512x1, .f32⟩
  | 40 => ⟨S4x512x512x1, .f32⟩
  | 41 => ⟨S4x512x512x1, .f32⟩
  | 42 => ⟨S4x512x512x1, .f32⟩
  | 43 => ⟨S1, .f32⟩
  | 44 => ⟨S_, .f32⟩
  | 45 => ⟨S4x512x512x1, .f32⟩
  | 46 => ⟨S4x512x512x1, .f32⟩
  | 47 => ⟨S4x512x512x1, .f32⟩
  | 48 => ⟨S4x512x512x1, .f32⟩
  | 49 => ⟨S1, .f32⟩
  | 50 => ⟨S_, .f32⟩
  | 51 => ⟨S4x512x512x1, .f32⟩
  | 52 => ⟨S4x512x512x1, .f32⟩
  | 53 => ⟨S4x512x512x1, .f32⟩
  | 54 => ⟨S4x512x512x1, .f32⟩
  | 55 => ⟨S1, .f32⟩
  | 56 => ⟨S_, .f32⟩
  | 57 => ⟨S4x512x512x1, .f32⟩
  | 58 => ⟨S4x512x512x1, .f32⟩
  | 59 => ⟨S4x512x512x1, .f32⟩
  | 60 => ⟨S4x512x512x1, .f32⟩
  | 61 => ⟨S1, .f32⟩
  | 62 => ⟨S_, .f32⟩
  | 63 => ⟨S4x512x512x1, .f32⟩
  | 64 => ⟨S4x512x512x1, .f32⟩
  | 65 => ⟨S4x512x512x1, .f32⟩
  | 66 => ⟨S4x512x512x1, .f32⟩
  | 67 => ⟨S1, .f32⟩
  | 68 => ⟨S_, .f32⟩
  | 69 => ⟨S4x512x512x1, .f32⟩
  | 70 => ⟨S4x512x512x1, .f32⟩
  | 71 => ⟨S4x512x512x1, .f32⟩
  | 72 => ⟨S4x512x512x1, .f32⟩
  | 73 => ⟨S1, .f32⟩
  | 74 => ⟨S_, .f32⟩
  | 75 => ⟨S4x512x512x1, .f32⟩
  | 76 => ⟨S4x512x512x1, .f32⟩
  | 77 => ⟨S4x512x512x1, .f32⟩
  | 78 => ⟨S4x512x512x1, .f32⟩
  | 79 => ⟨S1, .f32⟩
  | 80 => ⟨S_, .f32⟩
  | 81 => ⟨S4x512x512x1, .f32⟩
  | 82 => ⟨S4x512x512x1, .f32⟩
  | 83 => ⟨S4x512x512x1, .f32⟩
  | 84 => ⟨S4x512x512x1, .f32⟩
  | 85 => ⟨S1, .f32⟩
  | 86 => ⟨S_, .f32⟩
  | 87 => ⟨S4x512x512x1, .f32⟩
  | 88 => ⟨S4x512x512x1, .f32⟩
  | 89 => ⟨S4x512x512x1, .f32⟩
  | 90 => ⟨S4x512x512x1, .f32⟩
  | 91 => ⟨S1, .f32⟩
  | 92 => ⟨S_, .f32⟩
  | 93 => ⟨S4x512x512x1, .f32⟩
  | 94 => ⟨S4x512x512x1, .f32⟩
  | 95 => ⟨S4x512x512x1, .f32⟩
  | 96 => ⟨S4x512x512x1, .f32⟩
  | 97 => ⟨S1, .f32⟩
  | 98 => ⟨S_, .f32⟩
  | 99 => ⟨S4x512x512x1, .f32⟩
  | 100 => ⟨S4x512x512x1, .f32⟩
  | 101 => ⟨S4x512x512x1, .f32⟩
  | 102 => ⟨S4x512x512x1, .f32⟩
  | 103 => ⟨S1, .f32⟩
  | 104 => ⟨S_, .f32⟩
  | 105 => ⟨S4x512x512x1, .f32⟩
  | 106 => ⟨S4x512x512x1, .f32⟩
  | 107 => ⟨S4x512x512x1, .f32⟩
  | 108 => ⟨S4x512x512x1, .f32⟩
  | 109 => ⟨S1, .f32⟩
  | 110 => ⟨S_, .f32⟩
  | 111 => ⟨S4x512x512x1, .f32⟩
  | 112 => ⟨S4x512x512x1, .f32⟩
  | 113 => ⟨S4x512x512x1, .f32⟩
  | 114 => ⟨S4x512x512x1, .f32⟩
  | 115 => ⟨S1, .f32⟩
  | 116 => ⟨S_, .f32⟩
  | 117 => ⟨S4x512x512x1, .f32⟩
  | 118 => ⟨S4x512x512x1, .f32⟩
  | 119 => ⟨S4x512x512x1, .f32⟩
  | 120 => ⟨S4x512x512x1, .f32⟩
  | 121 => ⟨S1, .f32⟩
  | 122 => ⟨S_, .f32⟩
  | 123 => ⟨S4x512x512x1, .f32⟩
  | 124 => ⟨S4x512x512x1, .f32⟩
  | 125 => ⟨S4x512x512x1, .f32⟩
  | 126 => ⟨S4x512x512x1, .f32⟩
  | 127 => ⟨S1, .f32⟩
  | _ => ⟨S4x32x32x192, .f32⟩

abbrev hbmTy0_4 (i : Nat) : BufTy := match i % 128 with
  | 0 => ⟨S_, .f32⟩
  | 1 => ⟨S4x512x512x1, .f32⟩
  | 2 => ⟨S4x512x512x1, .f32⟩
  | 3 => ⟨S4x512x512x1, .f32⟩
  | 4 => ⟨S4x512x512x1, .f32⟩
  | 5 => ⟨S1, .f32⟩
  | 6 => ⟨S_, .f32⟩
  | 7 => ⟨S4x512x512x1, .f32⟩
  | 8 => ⟨S4x512x512x1, .f32⟩
  | 9 => ⟨S4x512x512x1, .f32⟩
  | 10 => ⟨S4x512x512x1, .f32⟩
  | 11 => ⟨S1, .f32⟩
  | 12 => ⟨S_, .f32⟩
  | 13 => ⟨S4x512x512x1, .f32⟩
  | 14 => ⟨S4x512x512x1, .f32⟩
  | 15 => ⟨S4x512x512x1, .f32⟩
  | 16 => ⟨S4x512x512x1, .f32⟩
  | 17 => ⟨S1, .f32⟩
  | 18 => ⟨S_, .f32⟩
  | 19 => ⟨S4x512x512x1, .f32⟩
  | 20 => ⟨S4x512x512x1, .f32⟩
  | 21 => ⟨S4x512x512x1, .f32⟩
  | 22 => ⟨S4x512x512x1, .f32⟩
  | 23 => ⟨S1, .f32⟩
  | 24 => ⟨S_, .f32⟩
  | 25 => ⟨S4x512x512x1, .f32⟩
  | 26 => ⟨S4x512x512x1, .f32⟩
  | 27 => ⟨S4x512x512x1, .f32⟩
  | 28 => ⟨S4x512x512x1, .f32⟩
  | 29 => ⟨S1, .f32⟩
  | 30 => ⟨S_, .f32⟩
  | 31 => ⟨S4x512x512x1, .f32⟩
  | 32 => ⟨S4x512x512x1, .f32⟩
  | 33 => ⟨S4x512x512x1, .f32⟩
  | 34 => ⟨S4x512x512x1, .f32⟩
  | 35 => ⟨S1, .f32⟩
  | 36 => ⟨S_, .f32⟩
  | 37 => ⟨S4x512x512x1, .f32⟩
  | 38 => ⟨S4x512x512x1, .f32⟩
  | 39 => ⟨S4x512x512x1, .f32⟩
  | 40 => ⟨S4x512x512x1, .f32⟩
  | 41 => ⟨S1, .f32⟩
  | 42 => ⟨S_, .f32⟩
  | 43 => ⟨S4x512x512x1, .f32⟩
  | 44 => ⟨S4x512x512x1, .f32⟩
  | 45 => ⟨S4x512x512x1, .f32⟩
  | 46 => ⟨S4x512x512x1, .f32⟩
  | 47 => ⟨S1, .f32⟩
  | 48 => ⟨S_, .f32⟩
  | 49 => ⟨S4x512x512x1, .f32⟩
  | 50 => ⟨S4x512x512x1, .f32⟩
  | 51 => ⟨S4x512x512x1, .f32⟩
  | 52 => ⟨S4x512x512x1, .f32⟩
  | 53 => ⟨S1, .f32⟩
  | 54 => ⟨S_, .f32⟩
  | 55 => ⟨S4x512x512x1, .f32⟩
  | 56 => ⟨S4x512x512x1, .f32⟩
  | 57 => ⟨S4x512x512x1, .f32⟩
  | 58 => ⟨S4x512x512x1, .f32⟩
  | 59 => ⟨S1, .f32⟩
  | 60 => ⟨S_, .f32⟩
  | 61 => ⟨S4x512x512x1, .f32⟩
  | 62 => ⟨S4x512x512x1, .f32⟩
  | 63 => ⟨S4x512x512x1, .f32⟩
  | 64 => ⟨S4x512x512x1, .f32⟩
  | 65 => ⟨S_, .f32⟩
  | 66 => ⟨S4, .f32⟩
  | 67 => ⟨S4x1, .f32⟩
  | _ => ⟨S4x32x32x192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x32x32x192, .f32⟩

abbrev bufTy : (tb : Table) → Fin (tcTables nBuf tb) → BufTy
  | .hbm, ⟨i, _⟩ => hbmTy i
  | _, _ => ⟨S4x32x32x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_15 : Ref sig .tc := ⟨.hbm, 75, rfl⟩
abbrev main_v56 : Ref sig .tc := ⟨.hbm, 76, rfl⟩
abbrev main_v57 : Ref sig .tc := ⟨.hbm, 77, rfl⟩
abbrev main_cst_16 : Ref sig .tc := ⟨.hbm, 78, rfl⟩
abbrev main_cst_17 : Ref sig .tc := ⟨.hbm, 79, rfl⟩
abbrev main_v58 : Ref sig .tc := ⟨.hbm, 80, rfl⟩
abbrev main_v59 : Ref sig .tc := ⟨.hbm, 81, rfl⟩
abbrev main_cst_18 : Ref sig .tc := ⟨.hbm, 82, rfl⟩
abbrev main_v60 : Ref sig .tc := ⟨.hbm, 83, rfl⟩
abbrev main_v61 : Ref sig .tc := ⟨.hbm, 84, rfl⟩
abbrev main_cst_19 : Ref sig .tc := ⟨.hbm, 85, rfl⟩
abbrev main_v62 : Ref sig .tc := ⟨.hbm, 86, rfl⟩
abbrev main_v63 : Ref sig .tc := ⟨.hbm, 87, rfl⟩
abbrev main_cst_20 : Ref sig .tc := ⟨.hbm, 88, rfl⟩
abbrev main_v64 : Ref sig .tc := ⟨.hbm, 89, rfl⟩
abbrev main_v65 : Ref sig .tc := ⟨.hbm, 90, rfl⟩
abbrev main_cst_21 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_22 : Ref sig .tc := ⟨.hbm, 105, rfl⟩
abbrev main_v79 : Ref sig .tc := ⟨.hbm, 106, rfl⟩
abbrev main_v80 : Ref sig .tc := ⟨.hbm, 107, rfl⟩
abbrev main_cst_23 : Ref sig .tc := ⟨.hbm, 108, rfl⟩
abbrev main_v81 : Ref sig .tc := ⟨.hbm, 109, rfl⟩
abbrev main_v82 : Ref sig .tc := ⟨.hbm, 110, rfl⟩
abbrev main_cst_24 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_25 : Ref sig .tc := ⟨.hbm, 115, rfl⟩
abbrev main_v86 : Ref sig .tc := ⟨.hbm, 116, rfl⟩
abbrev main_v87 : Ref sig .tc := ⟨.hbm, 117, rfl⟩
abbrev main_cst_26 : Ref sig .tc := ⟨.hbm, 118, rfl⟩
abbrev main_v88 : Ref sig .tc := ⟨.hbm, 119, rfl⟩
abbrev main_v89 : Ref sig .tc := ⟨.hbm, 120, rfl⟩
abbrev main_cst_27 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_28 : Ref sig .tc := ⟨.hbm, 127, rfl⟩
abbrev main_v95 : Ref sig .tc := ⟨.hbm, 128, rfl⟩
abbrev main_v96 : Ref sig .tc := ⟨.hbm, 129, rfl⟩
abbrev main_cst_29 : Ref sig .tc := ⟨.hbm, 130, rfl⟩
abbrev main_v97 : Ref sig .tc := ⟨.hbm, 131, rfl⟩
abbrev main_v98 : Ref sig .tc := ⟨.hbm, 132, rfl⟩
abbrev main_cst_30 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_31 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_32 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_33 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_34 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c : Ref sig .tc := ⟨.hbm, 159, rfl⟩
abbrev main_call0_v0 : Ref sig .tc := ⟨.hbm, 160, rfl⟩
abbrev main_call0_v1 : Ref sig .tc := ⟨.hbm, 161, rfl⟩
abbrev main_call0_v2 : Ref sig .tc := ⟨.hbm, 162, rfl⟩
abbrev main_call0_v3 : Ref sig .tc := ⟨.hbm, 163, rfl⟩
abbrev main_call0_v4 : Ref sig .tc := ⟨.hbm, 164, rfl⟩
abbrev main_call0_v5 : Ref sig .tc := ⟨.hbm, 165, rfl⟩
abbrev main_call0_v6 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_35 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_v292 : Ref sig .tc := ⟨.hbm, 340, rfl⟩
abbrev main_v293 : Ref sig .tc := ⟨.hbm, 341, rfl⟩
abbrev main_v294 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_v308 : Ref sig .tc := ⟨.hbm, 356, rfl⟩
abbrev main_v309 : Ref sig .tc := ⟨.hbm, 357, rfl⟩
abbrev main_v310 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_c_36 : Ref sig .tc := ⟨.hbm, 368, rfl⟩
abbrev main_call1_v0 : Ref sig .tc := ⟨.hbm, 369, rfl⟩
abbrev main_call1_v1 : Ref sig .tc := ⟨.hbm, 370, rfl⟩
abbrev main_call1_v2 : Ref sig .tc := ⟨.hbm, 371, rfl⟩
abbrev main_call1_v3 : Ref sig .tc := ⟨.hbm, 372, rfl⟩
abbrev main_call1_v4 : Ref sig .tc := ⟨.hbm, 373, rfl⟩
abbrev main_call1_v5 : Ref sig .tc := ⟨.hbm, 374, rfl⟩
abbrev main_call1_v6 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_v325 : Ref sig .tc := ⟨.hbm, 381, rfl⟩
abbrev main_cst_37 : Ref sig .tc := ⟨.hbm, 382, rfl⟩
abbrev main_v326 : Ref sig .tc := ⟨.hbm, 383, rfl⟩
abbrev main_v327 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_v333 : Ref sig .tc := ⟨.hbm, 390, rfl⟩
abbrev main_v334 : Ref sig .tc := ⟨.hbm, 391, rfl⟩
abbrev main_v335 : Ref sig .tc := ⟨.hbm, 392, rfl⟩
abbrev main_v336 : Ref sig .tc := ⟨.hbm, 393, rfl⟩
abbrev main_v337 : Ref sig .tc := ⟨.hbm, 394, rfl⟩
abbrev main_v338 : Ref sig .tc := ⟨.hbm, 395, rfl⟩
abbrev main_v339 : Ref sig .tc := ⟨.hbm, 396, rfl⟩
abbrev main_v340 : Ref sig .tc := ⟨.hbm, 397, rfl⟩
abbrev main_v341 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_v353 : Ref sig .tc := ⟨.hbm, 410, rfl⟩
abbrev main_v354 : Ref sig .tc := ⟨.hbm, 411, rfl⟩
abbrev main_v355 : Ref sig .tc := ⟨.hbm, 412, rfl⟩
abbrev main_v356 : Ref sig .tc := ⟨.hbm, 413, rfl⟩
abbrev main_v357 : Ref sig .tc := ⟨.hbm, 414, rfl⟩
abbrev main_v358 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_v369 : Ref sig .tc := ⟨.hbm, 426, rfl⟩
abbrev main_v370 : Ref sig .tc := ⟨.hbm, 427, rfl⟩
abbrev main_v371 : Ref sig .tc := ⟨.hbm, 428, rfl⟩
abbrev main_v372 : Ref sig .tc := ⟨.hbm, 429, rfl⟩
abbrev main_v373 : Ref sig .tc := ⟨.hbm, 430, rfl⟩
abbrev main_v374 : Ref sig .tc := ⟨.hbm, 431, rfl⟩
abbrev main_v375 : Ref sig .tc := ⟨.hbm, 432, rfl⟩
abbrev main_v376 : Ref sig .tc := ⟨.hbm, 433, rfl⟩
abbrev main_v377 : Ref sig .tc := ⟨.hbm, 434, rfl⟩
abbrev main_v378 : Ref sig .tc := ⟨.hbm, 435, rfl⟩
abbrev main_v379 : Ref sig .tc := ⟨.hbm, 436, rfl⟩
abbrev main_v380 : Ref sig .tc := ⟨.hbm, 437, rfl⟩
abbrev main_v381 : Ref sig .tc := ⟨.hbm, 438, rfl⟩
abbrev main_v382 : Ref sig .tc := ⟨.hbm, 439, rfl⟩
abbrev main_v383 : Ref sig .tc := ⟨.hbm, 440, rfl⟩
abbrev main_v384 : Ref sig .tc := ⟨.hbm, 441, rfl⟩
abbrev main_v385 : Ref sig .tc := ⟨.hbm, 442, rfl⟩
abbrev main_v386 : Ref sig .tc := ⟨.hbm, 443, rfl⟩
abbrev main_v387 : Ref sig .tc := ⟨.hbm, 444, rfl⟩
abbrev main_v388 : Ref sig .tc := ⟨.hbm, 445, rfl⟩
abbrev main_v389 : Ref sig .tc := ⟨.hbm, 446, rfl⟩
abbrev main_v390 : Ref sig .tc := ⟨.hbm, 447, rfl⟩
abbrev main_v391 : Ref sig .tc := ⟨.hbm, 448, rfl⟩
abbrev main_v392 : Ref sig .tc := ⟨.hbm, 449, rfl⟩
abbrev main_v393 : Ref sig .tc := ⟨.hbm, 450, rfl⟩
abbrev main_v394 : Ref sig .tc := ⟨.hbm, 451, rfl⟩
abbrev main_v395 : Ref sig .tc := ⟨.hbm, 452, rfl⟩
abbrev main_v396 : Ref sig .tc := ⟨.hbm, 453, rfl⟩
abbrev main_v397 : Ref sig .tc := ⟨.hbm, 454, rfl⟩
abbrev main_v398 : Ref sig .tc := ⟨.hbm, 455, rfl⟩
abbrev main_v399 : Ref sig .tc := ⟨.hbm, 456, rfl⟩
abbrev main_v400 : Ref sig .tc := ⟨.hbm, 457, rfl⟩
abbrev main_v401 : Ref sig .tc := ⟨.hbm, 458, rfl⟩
abbrev main_v402 : Ref sig .tc := ⟨.hbm, 459, rfl⟩
abbrev main_v403 : Ref sig .tc := ⟨.hbm, 460, rfl⟩
abbrev main_v404 : Ref sig .tc := ⟨.hbm, 461, rfl⟩
abbrev main_v405 : Ref sig .tc := ⟨.hbm, 462, rfl⟩
abbrev main_v406 : Ref sig .tc := ⟨.hbm, 463, rfl⟩
abbrev main_v407 : Ref sig .tc := ⟨.hbm, 464, rfl⟩
abbrev main_v408 : Ref sig .tc := ⟨.hbm, 465, rfl⟩
abbrev main_v409 : Ref sig .tc := ⟨.hbm, 466, rfl⟩
abbrev main_v410 : Ref sig .tc := ⟨.hbm, 467, rfl⟩
abbrev main_v411 : Ref sig .tc := ⟨.hbm, 468, rfl⟩
abbrev main_v412 : Ref sig .tc := ⟨.hbm, 469, rfl⟩
abbrev main_v413 : Ref sig .tc := ⟨.hbm, 470, rfl⟩
abbrev main_v414 : Ref sig .tc := ⟨.hbm, 471, rfl⟩
abbrev main_v415 : Ref sig .tc := ⟨.hbm, 472, rfl⟩
abbrev main_v416 : Ref sig .tc := ⟨.hbm, 473, rfl⟩
abbrev main_v417 : Ref sig .tc := ⟨.hbm, 474, rfl⟩
abbrev main_v418 : Ref sig .tc := ⟨.hbm, 475, rfl⟩
abbrev main_v419 : Ref sig .tc := ⟨.hbm, 476, rfl⟩
abbrev main_v420 : Ref sig .tc := ⟨.hbm, 477, rfl⟩
abbrev main_v421 : Ref sig .tc := ⟨.hbm, 478, rfl⟩
abbrev main_v422 : Ref sig .tc := ⟨.hbm, 479, rfl⟩
abbrev main_v423 : Ref sig .tc := ⟨.hbm, 480, rfl⟩
abbrev main_v424 : Ref sig .tc := ⟨.hbm, 481, rfl⟩
abbrev main_v425 : Ref sig .tc := ⟨.hbm, 482, rfl⟩
abbrev main_v426 : Ref sig .tc := ⟨.hbm, 483, rfl⟩
abbrev main_v427 : Ref sig .tc := ⟨.hbm, 484, rfl⟩
abbrev main_v428 : Ref sig .tc := ⟨.hbm, 485, rfl⟩
abbrev main_v429 : Ref sig .tc := ⟨.hbm, 486, rfl⟩
abbrev main_v430 : Ref sig .tc := ⟨.hbm, 487, rfl⟩
abbrev main_v431 : Ref sig .tc := ⟨.hbm, 488, rfl⟩
abbrev main_v432 : Ref sig .tc := ⟨.hbm, 489, rfl⟩
abbrev main_v433 : Ref sig .tc := ⟨.hbm, 490, rfl⟩
abbrev main_v434 : Ref sig .tc := ⟨.hbm, 491, rfl⟩
abbrev main_v435 : Ref sig .tc := ⟨.hbm, 492, rfl⟩
abbrev main_v436 : Ref sig .tc := ⟨.hbm, 493, rfl⟩
abbrev main_v437 : Ref sig .tc := ⟨.hbm, 494, rfl⟩
abbrev main_v438 : Ref sig .tc := ⟨.hbm, 495, rfl⟩
abbrev main_v439 : Ref sig .tc := ⟨.hbm, 496, rfl⟩
abbrev main_v440 : Ref sig .tc := ⟨.hbm, 497, rfl⟩
abbrev main_v441 : Ref sig .tc := ⟨.hbm, 498, rfl⟩
abbrev main_v442 : Ref sig .tc := ⟨.hbm, 499, rfl⟩
abbrev main_v443 : Ref sig .tc := ⟨.hbm, 500, rfl⟩
abbrev main_v444 : Ref sig .tc := ⟨.hbm, 501, rfl⟩
abbrev main_v445 : Ref sig .tc := ⟨.hbm, 502, rfl⟩
abbrev main_v446 : Ref sig .tc := ⟨.hbm, 503, rfl⟩
abbrev main_v447 : Ref sig .tc := ⟨.hbm, 504, rfl⟩
abbrev main_v448 : Ref sig .tc := ⟨.hbm, 505, rfl⟩
abbrev main_v449 : Ref sig .tc := ⟨.hbm, 506, rfl⟩
abbrev main_v450 : Ref sig .tc := ⟨.hbm, 507, rfl⟩
abbrev main_v451 : Ref sig .tc := ⟨.hbm, 508, rfl⟩
abbrev main_v452 : Ref sig .tc := ⟨.hbm, 509, rfl⟩
abbrev main_v453 : Ref sig .tc := ⟨.hbm, 510, rfl⟩
abbrev main_v454 : Ref sig .tc := ⟨.hbm, 511, rfl⟩
abbrev main_v455 : Ref sig .tc := ⟨.hbm, 512, rfl⟩
abbrev main_v456 : Ref sig .tc := ⟨.hbm, 513, rfl⟩
abbrev main_v457 : Ref sig .tc := ⟨.hbm, 514, rfl⟩
abbrev main_v458 : Ref sig .tc := ⟨.hbm, 515, rfl⟩
abbrev main_v459 : Ref sig .tc := ⟨.hbm, 516, rfl⟩
abbrev main_v460 : Ref sig .tc := ⟨.hbm, 517, rfl⟩
abbrev main_v461 : Ref sig .tc := ⟨.hbm, 518, rfl⟩
abbrev main_v462 : Ref sig .tc := ⟨.hbm, 519, rfl⟩
abbrev main_v463 : Ref sig .tc := ⟨.hbm, 520, rfl⟩
abbrev main_v464 : Ref sig .tc := ⟨.hbm, 521, rfl⟩
abbrev main_v465 : Ref sig .tc := ⟨.hbm, 522, rfl⟩
abbrev main_v466 : Ref sig .tc := ⟨.hbm, 523, rfl⟩
abbrev main_v467 : Ref sig .tc := ⟨.hbm, 524, rfl⟩
abbrev main_v468 : Ref sig .tc := ⟨.hbm, 525, rfl⟩
abbrev main_v469 : Ref sig .tc := ⟨.hbm, 526, rfl⟩
abbrev main_v470 : Ref sig .tc := ⟨.hbm, 527, rfl⟩
abbrev main_v471 : Ref sig .tc := ⟨.hbm, 528, rfl⟩
abbrev main_v472 : Ref sig .tc := ⟨.hbm, 529, rfl⟩
abbrev main_v473 : Ref sig .tc := ⟨.hbm, 530, rfl⟩
abbrev main_v474 : Ref sig .tc := ⟨.hbm, 531, rfl⟩
abbrev main_v475 : Ref sig .tc := ⟨.hbm, 532, rfl⟩
abbrev main_v476 : Ref sig .tc := ⟨.hbm, 533, rfl⟩
abbrev main_v477 : Ref sig .tc := ⟨.hbm, 534, rfl⟩
abbrev main_v478 : Ref sig .tc := ⟨.hbm, 535, rfl⟩
abbrev main_v479 : Ref sig .tc := ⟨.hbm, 536, rfl⟩
abbrev main_v480 : Ref sig .tc := ⟨.hbm, 537, rfl⟩
abbrev main_v481 : Ref sig .tc := ⟨.hbm, 538, rfl⟩
abbrev main_v482 : Ref sig .tc := ⟨.hbm, 539, rfl⟩
abbrev main_v483 : Ref sig .tc := ⟨.hbm, 540, rfl⟩
abbrev main_v484 : Ref sig .tc := ⟨.hbm, 541, rfl⟩
abbrev main_v485 : Ref sig .tc := ⟨.hbm, 542, rfl⟩
abbrev main_v486 : Ref sig .tc := ⟨.hbm, 543, rfl⟩
abbrev main_v487 : Ref sig .tc := ⟨.hbm, 544, rfl⟩
abbrev main_v488 : Ref sig .tc := ⟨.hbm, 545, rfl⟩
abbrev main_v489 : Ref sig .tc := ⟨.hbm, 546, rfl⟩
abbrev main_v490 : Ref sig .tc := ⟨.hbm, 547, rfl⟩
abbrev main_v491 : Ref sig .tc := ⟨.hbm, 548, rfl⟩
abbrev main_v492 : Ref sig .tc := ⟨.hbm, 549, rfl⟩
abbrev main_v493 : Ref sig .tc := ⟨.hbm, 550, rfl⟩
abbrev main_v494 : Ref sig .tc := ⟨.hbm, 551, rfl⟩
abbrev main_v495 : Ref sig .tc := ⟨.hbm, 552, rfl⟩
abbrev main_v496 : Ref sig .tc := ⟨.hbm, 553, rfl⟩
abbrev main_v497 : Ref sig .tc := ⟨.hbm, 554, rfl⟩
abbrev main_v498 : Ref sig .tc := ⟨.hbm, 555, rfl⟩
abbrev main_v499 : Ref sig .tc := ⟨.hbm, 556, rfl⟩
abbrev main_v500 : Ref sig .tc := ⟨.hbm, 557, rfl⟩
abbrev main_v501 : Ref sig .tc := ⟨.hbm, 558, rfl⟩
abbrev main_v502 : Ref sig .tc := ⟨.hbm, 559, rfl⟩
abbrev main_v503 : Ref sig .tc := ⟨.hbm, 560, rfl⟩
abbrev main_v504 : Ref sig .tc := ⟨.hbm, 561, rfl⟩
abbrev main_v505 : Ref sig .tc := ⟨.hbm, 562, rfl⟩
abbrev main_v506 : Ref sig .tc := ⟨.hbm, 563, rfl⟩
abbrev main_v507 : Ref sig .tc := ⟨.hbm, 564, rfl⟩
abbrev main_v508 : Ref sig .tc := ⟨.hbm, 565, rfl⟩
abbrev main_v509 : Ref sig .tc := ⟨.hbm, 566, rfl⟩
abbrev main_v510 : Ref sig .tc := ⟨.hbm, 567, rfl⟩
abbrev main_v511 : Ref sig .tc := ⟨.hbm, 568, rfl⟩
abbrev main_v512 : Ref sig .tc := ⟨.hbm, 569, rfl⟩
abbrev main_v513 : Ref sig .tc := ⟨.hbm, 570, rfl⟩
abbrev main_v514 : Ref sig .tc := ⟨.hbm, 571, rfl⟩
abbrev main_v515 : Ref sig .tc := ⟨.hbm, 572, rfl⟩
abbrev main_v516 : Ref sig .tc := ⟨.hbm, 573, rfl⟩
abbrev main_v517 : Ref sig .tc := ⟨.hbm, 574, rfl⟩
abbrev main_v518 : Ref sig .tc := ⟨.hbm, 575, rfl⟩
abbrev main_v519 : Ref sig .tc := ⟨.hbm, 576, rfl⟩
abbrev main_cst_38 : Ref sig .tc := ⟨.hbm, 577, rfl⟩
abbrev main_v520 : Ref sig .tc := ⟨.hbm, 578, rfl⟩
abbrev main_v521 : Ref sig .tc := ⟨.hbm, 579, rfl⟩

abbrev nD : Nat := 1
abbrev τ : Topo := Topo.v7x

variable {F : FTy → Type} [FloatOps F]
-- ==== Proof.Model.lean ====
/- The equation behind the algebraic claim, over the extended reals, with nothing of the two programs in it:
   resizing and blurring by one matrix on either side is resizing, then blurring down the columns, then blurring
   along the rows, when every number involved is nonnegative. -/
module

public import Mathlib.Data.EReal.Operations
public import Mathlib.Data.ENNReal.Operations
public import Mathlib.Algebra.BigOperators.Ring.Finset
public import Mathlib.Algebra.BigOperators.Fin
public import Mathlib.Algebra.BigOperators.Group.Finset.Sigma
public import Mathlib.Tactic.Ring

@[expose] public section

noncomputable section

namespace Cert.Blur

open scoped ENNReal

/-- A finite sum of nonnegative extended reals is the same sum read in the extended reals. -/
theorem coe_sum_ennreal {ι : Type} (s : Finset ι) (f : ι → ℝ≥0∞) :
    ((∑ i ∈ s, f i : ℝ≥0∞) : EReal) = ∑ i ∈ s, (f i : EReal) :=
  map_sum (⟨⟨(↑), EReal.coe_ennreal_zero⟩, EReal.coe_ennreal_add⟩ : ℝ≥0∞ →+ EReal) f s

section Semiring

variable {α : Type} [CommSemiring α] {K T P Q : Type} [Fintype K] [DecidableEq K] [Fintype T] [Fintype P] [Fintype Q]

/-- A row of the blur matrix, each tap added at the position it reads, times a matrix, is the taps' combination of the
    matrix's rows. -/
theorem row_mul (src : T → K) (g : T → α) (w : K → α) :
    ∑ k, (∑ t, if src t = k then g t else 0) * w k = ∑ t, g t * w (src t) := by
  simp_rw [Finset.sum_mul]
  rw [Finset.sum_comm]
  refine Finset.sum_congr rfl fun t _ => ?_
  simp [ite_mul]

/-- Two matrices of combined rows around `D` against the combination of the products of single rows around `D`. -/
theorem two_sided (g : T → α) (a : T → P → α) (b : T → Q → α) (D : P → Q → α) :
    ∑ q, (∑ p, (∑ t, g t * a t p) * D p q) * (∑ s, g s * b s q)
      = ∑ s, g s * ∑ t, g t * ∑ q, (∑ p, a t p * D p q) * b s q := by
  have h : ∀ q, ∑ p, (∑ t, g t * a t p) * D p q = ∑ t, g t * ∑ p, a t p * D p q := fun q => by
    simp_rw [Finset.sum_mul, Finset.mul_sum]
    rw [Finset.sum_comm]
    exact Finset.sum_congr rfl fun t _ => Finset.sum_congr rfl fun p _ => by ring
  simp_rw [h]
  have h2 : ∀ q, (∑ t, g t * ∑ p, a t p * D p q) * (∑ s, g s * b s q)
      = ∑ s, ∑ t, g s * (g t * ((∑ p, a t p * D p q) * b s q)) := fun q => by
    rw [Finset.sum_mul_sum, Finset.sum_comm]
    exact Finset.sum_congr rfl fun s _ => Finset.sum_congr rfl fun t _ => by ring
  simp_rw [h2]
  rw [Finset.sum_comm]
  refine Finset.sum_congr rfl fun s _ => ?_
  rw [Finset.sum_comm, Finset.mul_sum]
  refine Finset.sum_congr rfl fun t _ => ?_
  rw [Finset.mul_sum, Finset.mul_sum]

end Semiring

/-- The blur matrix times the resize matrix at row `i` and column `p`: the sum over the positions `k` of the weight the
    blur gives `k` times the resize weight from `p` to `k`. -/
def mat (src : Fin 512 → Fin 33 → Fin 512) (g : Fin 33 → EReal) (w : Fin 32 → Fin 512 → EReal) (i : Fin 512) (p : Fin 32) : EReal :=
  ∑ k : Fin 512, (∑ t : Fin 33, if src i t = k then g t else 0) * w p k

/-- The resized map at row `o₁` and column `o₂`: the rows combined first. -/
def resized (w : Fin 32 → Fin 512 → EReal) (D : Fin 32 → Fin 32 → EReal) (o₁ o₂ : Fin 512) : EReal :=
  ∑ q : Fin 32, (∑ p : Fin 32, w p o₁ * D p q) * w q o₂

/-- The whole map by the one matrix on either side is the resized map blurred down its columns and then along its rows. -/
theorem mat_sandwich (src : Fin 512 → Fin 33 → Fin 512) (g : Fin 33 → EReal) (w : Fin 32 → Fin 512 → EReal)
    (D : Fin 32 → Fin 32 → EReal) (hg : ∀ t, 0 ≤ g t) (hw : ∀ p o, 0 ≤ w p o) (hD : ∀ p q, 0 ≤ D p q) (i j : Fin 512) :
    ∑ q : Fin 32, (∑ p : Fin 32, mat src g w i p * D p q) * mat src g w j q
      = ∑ s : Fin 33, g s * ∑ t : Fin 33, g t * resized w D (src i t) (src j s) := by
  obtain ⟨g', rfl⟩ : ∃ g' : Fin 33 → ℝ≥0∞, g = fun t => (g' t : EReal) :=
    ⟨fun t => (g t).toENNReal, funext fun t => (EReal.coe_toENNReal (hg t)).symm⟩
  obtain ⟨w', rfl⟩ : ∃ w' : Fin 32 → Fin 512 → ℝ≥0∞, w = fun p o => (w' p o : EReal) :=
    ⟨fun p o => (w p o).toENNReal, funext fun p => funext fun o => (EReal.coe_toENNReal (hw p o)).symm⟩
  obtain ⟨D', rfl⟩ : ∃ D' : Fin 32 → Fin 32 → ℝ≥0∞, D = fun p q => (D' p q : EReal) :=
    ⟨fun p q => (D p q).toENNReal, funext fun p => funext fun q => (EReal.coe_toENNReal (hD p q)).symm⟩
  have hmat : ∀ i p, mat src (fun t => (g' t : EReal)) (fun p o => (w' p o : EReal)) i p
      = ((∑ t, g' t * w' p (src i t) : ℝ≥0∞) : EReal) := fun i p => by
    rw [← row_mul (src i) g' (w' p), mat, coe_sum_ennreal]
    refine Finset.sum_congr rfl fun k _ => ?_
    rw [EReal.coe_ennreal_mul, coe_sum_ennreal]
    congr 1
    refine Finset.sum_congr rfl fun t _ => ?_
    split <;> simp
  simp only [hmat, resized]
  simp only [← EReal.coe_ennreal_mul, ← coe_sum_ennreal]
  congr 1
  exact two_sided g' (fun t p => w' p (src i t)) (fun s q => w' q (src j s)) D'

/-- The largest entry of a map. -/
def peak (f : Fin 512 → Fin 512 → EReal) : EReal :=
  (Finset.univ : Finset (Fin 512 × Fin 512)).sup fun p => f p.1 p.2

end Cert.Blur

end
-- ==== Proof.Weights.lean ====
/- The numbers the two programs compute their weights from, as real numbers: the sample positions of the resize, its
   triangle weights and their total (never below 17/32), and the taps of the blur. -/
module

public import Idealize.ShloMosaic.PureOps.Ideal.Laws
public import Idealize.ShloMosaic.Lib.IdealHost
public import proofs.«01_k».proof.Proof.Model

@[expose] public section

noncomputable section

namespace Cert.Blur

open Idealize.ShloMosaic

/-- The sample position of output `o` in the small map's own coordinates. -/
def pos (o : Fin 512) : ℝ := ((o.val : ℝ) + 1 / 2) * (1 / 16) - 1 / 2

/-- The triangle weight of the small map's position `p` for output `o`. -/
def tri (p : Fin 32) (o : Fin 512) : ℝ := max 0 (1 - |pos o - (p.val : ℝ)|)

/-- The triangle weights' total for output `o`. -/
def tot (o : Fin 512) : ℝ := ∑ p : Fin 32, tri p o

/-- The bell at tap `t`, before it is normalised. -/
def bell (t : Fin 33) : ℝ := Real.exp (-(((t.val : ℝ) - 16) * ((t.val : ℝ) - 16)) * (1 / 32))

/-- A triangle weight is nonnegative. -/
theorem tri_nonneg (p : Fin 32) (o : Fin 512) : 0 ≤ tri p o := le_max_left _ _

/-- The position nearest to the sample already weighs 17/32. -/
theorem tot_ge (o : Fin 512) : 17 / 32 ≤ tot o := by
  have hp : o.val / 16 < 32 := by have := o.isLt; omega
  refine le_trans ?_ (Finset.single_le_sum (f := fun p => tri p o) (fun p _ => tri_nonneg p o) (Finset.mem_univ ⟨o.val / 16, hp⟩))
  refine le_trans ?_ (le_max_right _ _)
  have h1 : (o.val : ℝ) = 16 * ((o.val / 16 : ℕ) : ℝ) + ((o.val % 16 : ℕ) : ℝ) := by
    exact_mod_cast (Nat.div_add_mod o.val 16).symm
  have h2 : ((o.val % 16 : ℕ) : ℝ) ≤ 15 := by exact_mod_cast (by omega : o.val % 16 ≤ 15)
  have h3 : (0 : ℝ) ≤ ((o.val % 16 : ℕ) : ℝ) := by positivity
  have : |pos o - ((o.val / 16 : ℕ) : ℝ)| ≤ 15 / 32 := by
    rw [pos, h1, abs_le]; constructor <;> linarith
  show 17 / 32 ≤ 1 - |pos o - ((o.val / 16 : ℕ) : ℝ)|
  linarith

/-- The triangle weights' total is positive, so dividing by it is harmless. -/
theorem tot_pos (o : Fin 512) : 0 < tot o := lt_of_lt_of_le (by norm_num) (tot_ge o)

/-- The first output samples half a position before the small map. -/
theorem pos_ge (o : Fin 512) : -(1 / 2) ≤ pos o := by
  have : (0 : ℝ) ≤ (o.val : ℝ) := by positivity
  rw [pos]; linarith

/-- The last output samples at most half a position past the small map. -/
theorem pos_le (o : Fin 512) : pos o ≤ 63 / 2 := by
  have : (o.val : ℝ) ≤ 511 := by exact_mod_cast (by omega : o.val ≤ 511)
  rw [pos]; linarith

/-- The bell is positive. -/
theorem bell_pos (t : Fin 33) : 0 < bell t := Real.exp_pos _

/-- The bell's total is positive, so dividing by it is harmless. -/
theorem bell_tot_pos : 0 < ∑ t, bell t := Finset.sum_pos (fun t _ => bell_pos t) ⟨0, Finset.mem_univ _⟩

/-- The resize weight from `p` to `o`. -/
def wgt (p : Fin 32) (o : Fin 512) : EReal := ((tri p o / tot o : ℝ) : EReal)

/-- The blur's weight at tap `t`. -/
def tap (t : Fin 33) : EReal := ((bell t / ∑ t, bell t : ℝ) : EReal)

/-- A resize weight is nonnegative. -/
theorem wgt_nonneg (p : Fin 32) (o : Fin 512) : 0 ≤ wgt p o :=
  EReal.coe_nonneg.mpr (div_nonneg (tri_nonneg p o) (tot_pos o).le)

/-- A blur's tap is nonnegative. -/
theorem tap_nonneg (t : Fin 33) : 0 ≤ tap t :=
  EReal.coe_nonneg.mpr (div_nonneg (bell_pos t).le bell_tot_pos.le)

/-- A real sum read in the extended reals. -/
theorem coe_sum_real {ι : Type} (s : Finset ι) (f : ι → ℝ) :
    ((∑ i ∈ s, f i : ℝ) : EReal) = ∑ i ∈ s, (f i : EReal) :=
  map_sum (⟨⟨(↑), EReal.coe_zero⟩, EReal.coe_add⟩ : ℝ →+ EReal) f s

/-- Division of a real by a nonzero real. -/
theorem div_real {y : ℝ} (h : y ≠ 0) (x : ℝ) : Ideal.div (x : EReal) (y : EReal) = ((x / y : ℝ) : EReal) := by
  rw [Ideal.div_coe h, ← EReal.coe_mul]; congr 1; ring

/-- The literal 1/2. -/
theorem ofBits_half : Ideal.ofBits .f32 0x3F000000#32 = ((1 / 2 : ℝ) : EReal) := by
  simp [Ideal.ofBits, Ideal.ieee]; rw [← EReal.coe_mul]; norm_num
/-- The literal -1/2. -/
theorem ofBits_neg_half : Ideal.ofBits .f32 0xBF000000#32 = ((-(1 / 2) : ℝ) : EReal) := by
  simp [Ideal.ofBits, Ideal.ieee]; rw [← EReal.coe_mul]; norm_num
/-- The literal 1/16. -/
theorem ofBits_sixteenth : Ideal.ofBits .f32 0x3D800000#32 = ((1 / 16 : ℝ) : EReal) := by
  simp [Ideal.ofBits, Ideal.ieee]; rw [← EReal.coe_mul]; norm_num
/-- The literal 63/2. -/
theorem ofBits_last : Ideal.ofBits .f32 0x41FC0000#32 = ((63 / 2 : ℝ) : EReal) := by
  simp [Ideal.ofBits, Ideal.ieee]; rw [← EReal.coe_mul]; norm_num
/-- The literal 16. -/
theorem ofBits_16 : Ideal.ofBits .f32 0x41800000#32 = ((16 : ℝ) : EReal) := by
  simp [Ideal.ofBits, Ideal.ieee]; rw [← EReal.coe_mul]; norm_num
/-- The literal 32. -/
theorem ofBits_32 : Ideal.ofBits .f32 0x42000000#32 = ((32 : ℝ) : EReal) := by
  simp [Ideal.ofBits, Ideal.ieee]; rw [← EReal.coe_mul]; norm_num
/-- The literal of the resize's guard against a small total. -/
theorem ofBits_small : Ideal.ofBits .f32 0x38FA0000#32 = ((125 / 1048576 : ℝ) : EReal) := by
  simp [Ideal.ofBits, Ideal.ieee]; rw [← EReal.coe_mul]; norm_num
/-- The literal 1. -/
theorem ofBits_one : Ideal.ofBits .f32 0x3F800000#32 = ((1 : ℝ) : EReal) := by
  rw [Ideal.ofBits_one_f32, EReal.coe_one]
/-- The literal negative infinity. -/
theorem ofBits_neg_inf : Ideal.ofBits .f32 0xFF800000#32 = ⊥ := by
  simp [Ideal.ofBits, Ideal.ieee]

/-- The position that index `r` of the map padded by 16 mirrored positions on either side reads. -/
def mirror (r : ℕ) : ℕ := if r < 16 then 16 - r else if r < 528 then r - 16 else 1038 - r

/-- The mirrored positions on the left. -/
theorem mirror_lo {r : ℕ} (h : r < 16) : mirror r = 16 - r := if_pos h
/-- The map's own positions. -/
theorem mirror_mid {r : ℕ} (h : 16 ≤ r) (h' : r < 528) : mirror r = r - 16 := by
  rw [mirror, if_neg (by omega), if_pos h']
/-- The mirrored positions on the right. -/
theorem mirror_hi {r : ℕ} (h : 528 ≤ r) : mirror r = 1038 - r := by
  rw [mirror, if_neg (by omega), if_neg (by omega)]

/-- A position read through the mirror lies in the map. -/
theorem mirror_lt {r : ℕ} (h : r < 544) : mirror r < 512 := by
  unfold mirror; split
  · omega
  · split <;> omega

/-- The position that the blur's tap `t` reads for output `i`. -/
def src (i : Fin 512) (t : Fin 33) : Fin 512 := ⟨mirror (t.val + i.val), mirror_lt (by omega)⟩

/-- The position that the first tap reads. -/
theorem src_zero (i : Fin 512) : src i 0 = ⟨mirror i.val, mirror_lt (by omega)⟩ := Fin.ext (by simp [src])

/-- A number of a program's own counting, read as a real. -/
theorem toInt_small (n : ℕ) (h : n < 2 ^ 31) : (((BitVec.ofNat 32 n).toInt : ℝ) : EReal) = ((n : ℝ) : EReal) := by
  congr 1
  have : (BitVec.ofNat 32 n).toInt = (n : ℤ) := by
    rw [BitVec.toInt_eq_toNat_of_lt (by simp; omega)]; simp; omega
  rw [this]; norm_cast

/-- The conversion of a program's own counting, read as a real. -/
theorem sitofp_small (n : ℕ) (h : n < 2 ^ 31) :
    FloatOps.sitofp (F := Ideal) .f32 (BitVec.ofNat 32 n) = ((n : ℝ) : EReal) := toInt_small n h

/-- The larger of two reals read in the extended reals. -/
theorem max_real (x y : ℝ) : max (x : EReal) (y : EReal) = ((max x y : ℝ) : EReal) :=
  (EReal.coe_strictMono.monotone.map_max (a := x) (b := y)).symm

/-- The absolute value of a real read in the extended reals. -/
theorem absf_real (x : ℝ) : FloatOps.absf (F := Ideal) (φ := .f32) (x : EReal) = ((|x| : ℝ) : EReal) := by
  rw [Ideal.absf_def, ← EReal.coe_neg, abs_eq_max_neg, max_real]

end Cert.Blur

end
-- ==== Proof.Region0.lean ====
/- What the kernel's first region leaves in its output array: at position `n` and batch `b` the quadratic form of the
   batch's difference from the mean at `n`. -/
module

public import proofs.«01_k».proof.Proof.Gen.KernelIdeal.Frame
public import proofs.«01_k».proof.Proof.Weights
public import Idealize.ShloMosaic.Lib.Pointwise
public import Idealize.ShloMosaic.Lib.Pipeline.ValueKit

@[expose] public section

set_option maxRecDepth 16384

noncomputable section

namespace Cert.KernelIdeal.Read

open Cert.KernelIdeal Cert.KernelIdeal.Gen Cert.Blur
open Idealize.ShloMosaic Idealize.ShloMosaic.TcCoe Idealize.SL.Sem

/-- The block's payload at an index: the quadratic form by the covariance stream that holds its position. -/
theorem pay1_apply (x0 : Vec Ideal S128x4x192 .f32) (x1 : Vec Ideal S128x192 .f32) (x2 x3 x4 x5 : Vec Ideal S32x192x192 .f32)
    (k : Fin 128) (b : Fin 4) (C : Fin 192 → Fin 192 → EReal)
    (h2 : ∀ (h : k.val < 32) p q, x2 (ix3 ⟨k.val, h⟩ p q) = C p q)
    (h3 : ∀ (_ : 32 ≤ k.val) (h : k.val - 32 < 32) p q, x3 (ix3 ⟨k.val - 32, h⟩ p q) = C p q)
    (h4 : ∀ (_ : 64 ≤ k.val) (h : k.val - 64 < 32) p q, x4 (ix3 ⟨k.val - 64, h⟩ p q) = C p q)
    (h5 : ∀ (_ : 96 ≤ k.val) (h : k.val - 96 < 32) p q, x5 (ix3 ⟨k.val - 96, h⟩ p q) = C p q) :
    k0_pay1 x0 x1 x2 x3 x4 x5 (ix2 k b)
      = ∑ q : Fin 192, (∑ p : Fin 192, (x0 (ix3 k b p) - x1 (ix2 k p)) * C p q) * (x0 (ix3 k b q) - x1 (ix2 k q)) := by
  unfold k0_pay1
  pointwise
  have e1 (h : 32 ≤ k.val) (l : 32 + (k.val - 32) < 128) : (⟨32 + (k.val - 32), l⟩ : Fin 128) = k := Fin.ext (by dsimp only; omega)
  have e2 (h : 64 ≤ k.val) (l : 64 + (k.val - 64) < 128) : (⟨64 + (k.val - 64), l⟩ : Fin 128) = k := Fin.ext (by dsimp only; omega)
  have e3 (h : 96 ≤ k.val) (l : 96 + (k.val - 96) < 128) : (⟨96 + (k.val - 96), l⟩ : Fin 128) = k := Fin.ext (by dsimp only; omega)
  split_ifs
  all_goals simp only [Nat.sub_sub, Nat.reduceAdd] at *
  all_goals first
    | simp only [h2]; done
    | (simp only [h3 (by omega), e1 (by omega)]; done)
    | (simp only [h4 (by omega), e2 (by omega)]; done)
    | (simp only [h5 (by omega), e3 (by omega)]; done)

variable (V : (c : Dev nD) → (b : Ref sig .tc) → Buf (Elt Ideal) ((c : Thread nD τ).loc b))

/-- The grid has eight points. -/
theorem lt8 (t : Fin cfg0.grid.N) : t.val < 8 := lt_of_lt_of_eq t.isLt (by decide +kernel)

/-! The blocks of the windows, at coordinates. -/
/-- The features' window moves one block a grid point. -/
theorem index0 : ∀ t : Fin cfg0.grid.N, win0_0.index t = ![t.val, 0, 0] := by decide +kernel
/-- The means' window moves one block a grid point. -/
theorem index1 : ∀ t : Fin cfg0.grid.N, win0_1.index t = ![t.val, 0] := by decide +kernel
/-- The first covariance stream reads every fourth block from block 0. -/
theorem index2 : ∀ t : Fin cfg0.grid.N, win0_2.index t = ![t.val * 4, 0, 0] := by decide +kernel
/-- The second covariance stream reads every fourth block from block 1. -/
theorem index3 : ∀ t : Fin cfg0.grid.N, win0_3.index t = ![t.val * 4 + 1, 0, 0] := by decide +kernel
/-- The third covariance stream reads every fourth block from block 2. -/
theorem index4 : ∀ t : Fin cfg0.grid.N, win0_4.index t = ![t.val * 4 + 2, 0, 0] := by decide +kernel
/-- The fourth covariance stream reads every fourth block from block 3. -/
theorem index5 : ∀ t : Fin cfg0.grid.N, win0_5.index t = ![t.val * 4 + 3, 0, 0] := by decide +kernel
/-- The result's window moves one block a grid point. -/
theorem index6 : ∀ t : Fin cfg0.grid.N, win0_6.index t = ![t.val, 0] := by decide +kernel

/-- A features' block, at a position of the whole array. -/
theorem blk0 (c : Dev nD) (t : Fin cfg0.grid.N) (k : Fin 128) (b : Fin 4) (d : Fin 192) (n : Fin 1024) (hn : n.val = t.val * 128 + k.val) :
    iblk0 V c 0 t (ix3 k b d) = V c main_v1 (ix3 n b d) := by
  blk_simp [iblk0]
  congr 1
  blk_ext [index0]

/-- A means' block, at a position of the whole array. -/
theorem blk1 (c : Dev nD) (t : Fin cfg0.grid.N) (k : Fin 128) (d : Fin 192) (n : Fin 1024) (hn : n.val = t.val * 128 + k.val) :
    iblk0 V c 1 t (ix2 k d) = V c main_arg1 (ix2 n d) := by
  blk_simp [iblk0]
  congr 1
  blk_ext [index1]

/-- The first stream's block, at a position of the whole array. -/
theorem blk2 (c : Dev nD) (t : Fin cfg0.grid.N) (k : Fin 32) (p q : Fin 192) (n : Fin 1024) (hn : n.val = t.val * 128 + k.val) :
    iblk0 V c 2 t (ix3 k p q) = V c main_arg2 (ix3 n p q) := by
  blk_simp [iblk0]
  congr 1
  blk_ext [index2]

/-- The second stream's block, at a position of the whole array. -/
theorem blk3 (c : Dev nD) (t : Fin cfg0.grid.N) (k : Fin 32) (p q : Fin 192) (n : Fin 1024) (hn : n.val = t.val * 128 + 32 + k.val) :
    iblk0 V c 3 t (ix3 k p q) = V c main_arg2 (ix3 n p q) := by
  blk_simp [iblk0]
  congr 1
  blk_ext [index3]

/-- The third stream's block, at a position of the whole array. -/
theorem blk4 (c : Dev nD) (t : Fin cfg0.grid.N) (k : Fin 32) (p q : Fin 192) (n : Fin 1024) (hn : n.val = t.val * 128 + 64 + k.val) :
    iblk0 V c 4 t (ix3 k p q) = V c main_arg2 (ix3 n p q) := by
  blk_simp [iblk0]
  congr 1
  blk_ext [index4]

/-- The fourth stream's block, at a position of the whole array. -/
theorem blk5 (c : Dev nD) (t : Fin cfg0.grid.N) (k : Fin 32) (p q : Fin 192) (n : Fin 1024) (hn : n.val = t.val * 128 + 96 + k.val) :
    iblk0 V c 5 t (ix3 k p q) = V c main_arg2 (ix3 n p q) := by
  blk_simp [iblk0]
  congr 1
  blk_ext [index5]

/-- The quadratic form at position `n` and batch `b`, of the inputs laid out by position. -/
def quad (X : S1024x4x192.Idx → EReal) (M : S1024x192.Idx → EReal) (C : S1024x192x192.Idx → EReal) (n : Fin 1024) (b : Fin 4) : EReal :=
  ∑ q : Fin 192, (∑ p : Fin 192, (X (ix3 n b p) - M (ix2 n p)) * C (ix3 n p q)) * (X (ix3 n b q) - M (ix2 n q))

/-- The region's output, as one array. -/
def quads (X : S1024x4x192.Idx → EReal) (M : S1024x192.Idx → EReal) (C : S1024x192x192.Idx → EReal) : S1024x4.Idx → EReal :=
  fun i => quad X M C (i 0) (i 1)

/-- That array at coordinates. -/
theorem quad_at (X : S1024x4x192.Idx → EReal) (M : S1024x192.Idx → EReal) (C : S1024x192x192.Idx → EReal) (n : Fin 1024) (b : Fin 4) :
    quads X M C (ix2 n b)
      = ∑ q : Fin 192, (∑ p : Fin 192, (X (ix3 n b p) - M (ix2 n p)) * C (ix3 n p q)) * (X (ix3 n b q) - M (ix2 n q)) := rfl

/-- The block's payload is the quadratic form wherever the blocks hold the arrays' values at its position. -/
theorem pay1_quad (x0 : Vec Ideal S128x4x192 .f32) (x1 : Vec Ideal S128x192 .f32) (x2 x3 x4 x5 : Vec Ideal S32x192x192 .f32)
    (X : S1024x4x192.Idx → EReal) (M : S1024x192.Idx → EReal) (C : S1024x192x192.Idx → EReal) (k : Fin 128) (b : Fin 4) (n : Fin 1024)
    (h0 : ∀ p, x0 (ix3 k b p) = X (ix3 n b p)) (h1 : ∀ p, x1 (ix2 k p) = M (ix2 n p))
    (h2 : ∀ (h : k.val < 32) p q, x2 (ix3 ⟨k.val, h⟩ p q) = C (ix3 n p q))
    (h3 : ∀ (_ : 32 ≤ k.val) (h : k.val - 32 < 32) p q, x3 (ix3 ⟨k.val - 32, h⟩ p q) = C (ix3 n p q))
    (h4 : ∀ (_ : 64 ≤ k.val) (h : k.val - 64 < 32) p q, x4 (ix3 ⟨k.val - 64, h⟩ p q) = C (ix3 n p q))
    (h5 : ∀ (_ : 96 ≤ k.val) (h : k.val - 96 < 32) p q, x5 (ix3 ⟨k.val - 96, h⟩ p q) = C (ix3 n p q)) :
    k0_pay1 x0 x1 x2 x3 x4 x5 (ix2 k b) = quads X M C (ix2 n b) := by
  rw [pay1_apply x0 x1 x2 x3 x4 x5 k b (fun p q => C (ix3 n p q)) h2 h3 h4 h5, quad_at]
  simp only [h0, h1]

/-- The region's output array, once every block is written back. -/
theorem final0 (c : Dev nD) :
    (dat0 V c).arrAt 6 cfg0.N = quads (V c main_v1) (V c main_arg1) (V c main_arg2) := by
  refine (dat0 V c).arrAt_eq_of_covers 6 _ (by decide +kernel) fun t hf y => ?_
  blk_simp
  rw [after0_6]; frame_out
  idx_vars y
  have ht := lt8 t
  have e0 : ((View.whole main_v2).slice (win0_6.rect t)).emb (ix2 y0 y1) = ix2 (⟨t.val * 128 + y0.val, by omega⟩ : Fin 1024) y1 := by
    blk_ext [index6]
  rw [e0]
  exact pay1_quad _ _ _ _ _ _ (V c main_v1) (V c main_arg1) (V c main_arg2) y0 y1 ⟨t.val * 128 + y0.val, by omega⟩
    (fun p => blk0 V c t _ _ p _ rfl)
    (fun p => blk1 V c t _ p _ rfl)
    (fun h p q => blk2 V c t _ p q _ rfl)
    (fun h0 h p q => blk3 V c t _ p q _ (by dsimp only; omega))
    (fun h0 h p q => blk4 V c t _ p q _ (by dsimp only; omega))
    (fun h0 h p q => blk5 V c t _ p q _ (by dsimp only; omega))

end Cert.KernelIdeal.Read

end
-- ==== Proof.Region1.lean ====
/- What the kernel's second region leaves in its two output arrays: the map `A · D · Aᵀ` of every batch, `D` the square
   roots of the batch's quadratic forms, and each map's largest entry. -/
module

public import proofs.«01_k».proof.Proof.Gen.KernelIdeal.Frame
public import proofs.«01_k».proof.Proof.Weights
public import Idealize.ShloMosaic.Lib.Pointwise
public import Idealize.ShloMosaic.Lib.Pipeline.ValueKit

@[expose] public section

set_option maxRecDepth 16384

noncomputable section

namespace Cert.KernelIdeal.Read

open Cert.KernelIdeal Cert.KernelIdeal.Gen Cert.Blur
open Idealize.ShloMosaic Idealize.ShloMosaic.TcCoe Idealize.SL.Sem

/-- One batch's map at `(i, j)`: two products with the matrix around the square roots of its quadratic forms. -/
def sand (A : S512x32.Idx → EReal) (A' : S32x512.Idx → EReal) (D : Fin 32 → Fin 32 → EReal) (i j : Fin 512) : EReal :=
  ∑ q : Fin 32, (∑ p : Fin 32, A (ix2 i p) * Ideal.sqrt (max (D p q) 0)) * A' (ix2 q j)

/-- The third batch's map. -/
theorem pay1_sand (v1 : FVec Ideal S512x32 .f32) (v3 : FVec Ideal S32x512 .f32) (d : Vec Ideal S1x32x32 .f32) (i j : Fin 512) :
    k1_pay1 v1 v3 d (ix2 i j) = sand v1 v3 (fun p q => d (ix3 0 p q)) i j := by
  unfold k1_pay1
  pointwise
  rfl

/-- The fourth batch's map. -/
theorem pay3_sand (v1 : FVec Ideal S512x32 .f32) (v3 : FVec Ideal S32x512 .f32) (d : Vec Ideal S1x32x32 .f32) (i j : Fin 512) :
    k1_pay3 v1 v3 d (ix2 i j) = sand v1 v3 (fun p q => d (ix3 0 p q)) i j := by
  unfold k1_pay3
  pointwise
  rfl

/-- The first batch's map. -/
theorem pay8_sand (v0 : Vec Ideal S512x32 .f32) (v2 : Vec Ideal S32x512 .f32) (d : Vec Ideal S1x32x32 .f32) (i j : Fin 512) :
    k1_pay8 v0 v2 d (ix2 i j) = sand v0 v2 (fun p q => d (ix3 0 p q)) i j := by
  unfold k1_pay8 k1_pay6 k1_pay7
  pointwise
  rfl

/-- The second batch's map. -/
theorem pay11_sand (v0 : Vec Ideal S512x32 .f32) (v2 : Vec Ideal S32x512 .f32) (d : Vec Ideal S1x32x32 .f32) (i j : Fin 512) :
    k1_pay11 v0 v2 d (ix2 i j) = sand v0 v2 (fun p q => d (ix3 0 p q)) i j := by
  unfold k1_pay11 k1_pay6 k1_pay7
  pointwise
  rfl

/-- The first batch's score. -/
theorem pay10_peak (v0 : Vec Ideal S512x32 .f32) (v2 : Vec Ideal S32x512 .f32) (d : Vec Ideal S1x32x32 .f32) :
    k1_pay10 v0 v2 d = peak (sand v0 v2 fun p q => d (ix3 0 p q)) := by
  unfold k1_pay10
  pointwise
  rw [ofBits_neg_inf]
  simp only [pay8_sand]
  rfl

/-- The second batch's score. -/
theorem pay13_peak (v0 : Vec Ideal S512x32 .f32) (v2 : Vec Ideal S32x512 .f32) (d : Vec Ideal S1x32x32 .f32) :
    k1_pay13 v0 v2 d = peak (sand v0 v2 fun p q => d (ix3 0 p q)) := by
  unfold k1_pay13
  pointwise
  rw [ofBits_neg_inf]
  simp only [pay11_sand]
  rfl

/-- The stored scores: each batch's, in order. -/
theorem pay5_peak (v1 : FVec Ideal S512x32 .f32) (v3 : FVec Ideal S32x512 .f32) (s0 s1 : EReal) (d2 d3 : Vec Ideal S1x32x32 .f32)
    (f : Fin 4 → EReal) (h0 : s0 = f 0) (h1 : s1 = f 1) (h2 : peak (sand v1 v3 fun p q => d2 (ix3 0 p q)) = f 2)
    (h3 : peak (sand v1 v3 fun p q => d3 (ix3 0 p q)) = f 3) (b : Fin 4) :
    k1_pay5 v1 v3 s0 s1 d2 d3 (ix2 b 0) = f b := by
  unfold k1_pay5
  pointwise
  rw [ofBits_neg_inf]
  simp only [pay1_sand, pay3_sand]
  fin_cases b
  · exact h0
  · exact h1
  · exact h2
  · exact h3

variable (V : (c : Dev nD) → (b : Ref sig .tc) → Buf (Elt Ideal) ((c : Thread nD τ).loc b))

/-- The maps. -/
def maps (A : S512x32.Idx → EReal) (A' : S32x512.Idx → EReal) (D : S4x32x32.Idx → EReal) : S4x512x512.Idx → EReal :=
  fun i => sand A A' (fun p q => D (ix3 (i 0) p q)) (i 1) (i 2)

/-- The maps at coordinates. -/
theorem maps_at (A : S512x32.Idx → EReal) (A' : S32x512.Idx → EReal) (D : S4x32x32.Idx → EReal) (b : Fin 4) (i j : Fin 512) :
    maps A A' D (ix3 b i j) = sand A A' (fun p q => D (ix3 b p q)) i j := rfl

/-- The maps' largest entries, as one column. -/
def peaks (A : S512x32.Idx → EReal) (A' : S32x512.Idx → EReal) (D : S4x32x32.Idx → EReal) : S4x1.Idx → EReal :=
  fun i => peak (sand A A' fun p q => D (ix3 (i 0) p q))

/-- The first batch's block of the forms. -/
theorem ld_first (x0 : Vec Ideal S4x32x32 .f32) (p q : Fin 32) : View.ld x0 r1_2 (ix3 0 p q) = x0 (ix3 0 p q) := by
  unfold View.ld
  congr 1
  funext a; fin_cases a <;> exact Fin.ext (by simp [Rect.idx_unit_val])

/-- The second batch's block of the forms. -/
theorem ld_second (x0 : Vec Ideal S4x32x32 .f32) (p q : Fin 32) : View.ld x0 r1_4 (ix3 0 p q) = x0 (ix3 1 p q) := by
  unfold View.ld
  congr 1
  funext a; fin_cases a <;> exact Fin.ext (by simp [Rect.idx_unit_val])

/-- The third batch's block of the forms. -/
theorem ld_third (x0 : Vec Ideal S4x32x32 .f32) (p q : Fin 32) : View.ld x0 r1_6 (ix3 0 p q) = x0 (ix3 2 p q) := by
  unfold View.ld
  congr 1
  funext a; fin_cases a <;> exact Fin.ext (by simp [Rect.idx_unit_val])

/-- The fourth batch's block of the forms. -/
theorem ld_fourth (x0 : Vec Ideal S4x32x32 .f32) (p q : Fin 32) : View.ld x0 r1_8 (ix3 0 p q) = x0 (ix3 3 p q) := by
  unfold View.ld
  congr 1
  funext a; fin_cases a <;> exact Fin.ext (by simp [Rect.idx_unit_val])

/-- The cast of the matrix to its own shape is the matrix. -/
theorem pay6_self (x : Vec Ideal S512x32 .f32) : k1_pay6 x = x := by
  funext i
  idx_vars i
  unfold k1_pay6
  pointwise

/-- The cast of the transposed matrix to its own shape is that matrix. -/
theorem pay7_self (x : Vec Ideal S32x512 .f32) : k1_pay7 x = x := by
  funext i
  idx_vars i
  unfold k1_pay7
  pointwise

/-- A map under a new unit axis. -/
theorem under_unit (f : Vec Ideal S512x512 .f32) (z : Fin 1) (i j : Fin 512) :
    shapeCast S1x512x512 f shapeCasts_S512x512_S1x512x512 (ix3 z i j) = f (ix2 i j) := by
  pointwise

/-- What the region's body leaves in the maps' buffer. -/
theorem out3_maps (D : Vec Ideal S4x32x32 .f32) (A : Vec Ideal S512x32 .f32) (A' : Vec Ideal S32x512 .f32) (y : S4x512x512.Idx) :
    out1_3 D A A' y = maps A A' D y := by
  unfold_out out1_3
  frame_out
  simp only [pay6_self, pay7_self]
  canon_tiles x h
  all_goals
    idx_vars x
    idx_vars y
    obtain rfl := Fin.ext h1
    obtain rfl := Fin.ext h2
    rw [maps_at]
  · obtain rfl : y0 = 3 := Fin.ext (by rw [h0]; show 3 + x0.val = 3; omega)
    refine (under_unit _ x0 y1 y2).trans ((pay3_sand _ _ _ y1 y2).trans ?_)
    exact congrArg (fun E => sand A A' E y1 y2) (funext fun p => funext fun q => ld_fourth D p q)
  · obtain rfl : y0 = 2 := Fin.ext (by rw [h0]; show 2 + x0.val = 2; omega)
    refine (under_unit _ x0 y1 y2).trans ((pay1_sand _ _ _ y1 y2).trans ?_)
    exact congrArg (fun E => sand A A' E y1 y2) (funext fun p => funext fun q => ld_third D p q)
  · obtain rfl : y0 = 1 := Fin.ext (by rw [h0]; show 1 + x0.val = 1; omega)
    refine (under_unit _ x0 y1 y2).trans ((pay11_sand _ _ _ y1 y2).trans ?_)
    exact congrArg (fun E => sand A A' E y1 y2) (funext fun p => funext fun q => ld_second D p q)
  · obtain rfl : y0 = 0 := Fin.ext (by rw [h0]; show x0.val = 0; omega)
    refine (under_unit _ x0 y1 y2).trans ((pay8_sand _ _ _ y1 y2).trans ?_)
    exact congrArg (fun E => sand A A' E y1 y2) (funext fun p => funext fun q => ld_first D p q)

/-- What the region's body leaves in the scores' buffer. -/
theorem out4_peaks (x0 : Vec Ideal S4x32x32 .f32) (x1 : Vec Ideal S512x32 .f32) (x2 : Vec Ideal S32x512 .f32) (y : S4x1.Idx) :
    out1_4 x0 x1 x2 y = peaks x1 x2 x0 y := by
  unfold_out out1_4
  frame_out
  idx_vars y
  rw [Subsingleton.elim y1 0, pay6_self, pay7_self]
  refine pay5_peak _ _ _ _ _ _ (fun b => peak (sand x1 x2 fun p q => x0 (ix3 b p q))) ?_ ?_ ?_ ?_ y0
  · rw [pay10_peak]; exact congrArg (fun D => peak (sand x1 x2 D)) (funext fun p => funext fun q => ld_first x0 p q)
  · rw [pay13_peak]; exact congrArg (fun D => peak (sand x1 x2 D)) (funext fun p => funext fun q => ld_second x0 p q)
  · exact congrArg (fun D => peak (sand x1 x2 D)) (funext fun p => funext fun q => ld_third x0 p q)
  · exact congrArg (fun D => peak (sand x1 x2 D)) (funext fun p => funext fun q => ld_fourth x0 p q)

/-! The second region's input windows stay at the first block. -/
/-- The forms' window is at the first block. -/
theorem at1_0 : ∀ t : Fin cfg1.grid.N, win1_0.index t = ![0, 0, 0] := by decide +kernel
/-- The matrix's window is at the first block. -/
theorem at1_1 : ∀ t : Fin cfg1.grid.N, win1_1.index t = ![0, 0] := by decide +kernel
/-- The transposed matrix's window is at the first block. -/
theorem at1_2 : ∀ t : Fin cfg1.grid.N, win1_2.index t = ![0, 0] := by decide +kernel

/-- The forms' window holds the whole array. -/
theorem whole0 (c : Dev nD) (t : Fin cfg1.N) : iblk1 V c 0 t = V c main_v4 := by
  funext i; idx_vars i; blk_simp [iblk1]; congr 1; blk_ext [at1_0]

/-- The matrix's window holds the whole array. -/
theorem whole1 (c : Dev nD) (t : Fin cfg1.N) : iblk1 V c 1 t = V c main_v71 := by
  funext i; idx_vars i; blk_simp [iblk1]; congr 1; blk_ext [at1_1]

/-- The transposed matrix's window holds the whole array. -/
theorem whole2 (c : Dev nD) (t : Fin cfg1.N) : iblk1 V c 2 t = V c main_v72 := by
  funext i; idx_vars i; blk_simp [iblk1]; congr 1; blk_ext [at1_2]

/-- The maps' array ends as the body leaves its buffer. -/
theorem arr3 (c : Dev nD) (G : S4x512x512.Idx → EReal) (h : ∀ y, out1_3 (V c main_v4) (V c main_v71) (V c main_v72) y = G y) :
    (dat1 V c).arrAt 3 cfg1.N = G := by
  refine Pipeline.Dat.arrAt_eq_of_after_last (dat1 V c) 3 ⟨0, by decide +kernel⟩ (by decide +kernel) _ fun y => ?_
  rw [after1_3, whole0, whole1, whole2, show out1_3 (V c main_v4) (V c main_v71) (V c main_v72) = G from funext h]
  rfl

/-- The scores' array ends as the body leaves its buffer. -/
theorem arr4 (c : Dev nD) (G : S4x1.Idx → EReal) (h : ∀ y, out1_4 (V c main_v4) (V c main_v71) (V c main_v72) y = G y) :
    (dat1 V c).arrAt 4 cfg1.N = G := by
  refine Pipeline.Dat.arrAt_eq_of_after_last (dat1 V c) 4 ⟨0, by decide +kernel⟩ (by decide +kernel) _ fun y => ?_
  rw [after1_4, whole0, whole1, whole2, show out1_4 (V c main_v4) (V c main_v71) (V c main_v72) = G from funext h]
  rfl

/-- The maps' array, once the region is done. -/
theorem final3 (c : Dev nD) :
    (dat1 V c).arrAt 3 cfg1.N = maps (V c main_v71) (V c main_v72) (V c main_v4) :=
  arr3 V c _ fun y => out3_maps _ _ _ y

/-- The scores' array, once the region is done. -/
theorem final4 (c : Dev nD) :
    (dat1 V c).arrAt 4 cfg1.N = peaks (V c main_v71) (V c main_v72) (V c main_v4) :=
  arr4 V c _ fun y => out4_peaks _ _ _ y

end Cert.KernelIdeal.Read

end
-- ==== Proof.HostRead.lean ====
/- What the kernel's host code leaves in the buffers its regions read: the inputs by position, the quadratic forms by
   batch, and the resize-blur matrix with its transpose. -/
module

public import proofs.«01_k».proof.Proof.Gen.KernelIdeal.Frame
public import proofs.«01_k».proof.Proof.Weights
public import Idealize.ShloMosaic.Lib.Pointwise
public import Idealize.ShloMosaic.Lib.StableHlo.RunRead

@[expose] public section

set_option maxRecDepth 16384

noncomputable section

namespace Cert.KernelIdeal.Read

open Cert.KernelIdeal Cert.KernelIdeal.Gen Cert.Blur
open Idealize.ShloMosaic Idealize.ShloMosaic.TcCoe Idealize.SL.Sem

variable (U : Valuation τ sig (Elt Ideal))

/-- The inputs laid out by position. -/
def byPos (x : S4x32x32x192.Idx → EReal) : S1024x4x192.Idx → EReal :=
  transpose S1024x4x192 [1, 0, 2] (shapeCast S4x1024x192 x shapeCasts_S4x32x32x192_S4x1024x192) transposes_S4x1024x192_S1024x4x192_1_0_2

/-- The first stretch leaves the inputs by position. -/
theorem read_v1 : StableHlo.after (hostOps0 (F := Ideal)) U (Proc.devRef .tc main_v1) = byPos (U (Proc.devRef .tc main_arg0)) := by
  after_reads_simp
  rfl

/-- The quadratic forms, batch by batch. -/
def byBatch (x : S1024x4.Idx → EReal) : S4x32x32.Idx → EReal :=
  shapeCast S4x32x32 (transpose S4x1024 [1, 0] x transposes_S1024x4_S4x1024_1_0) shapeCasts_S4x1024_S4x32x32

/-- The second stretch leaves the forms by batch. -/
theorem read_v4 : StableHlo.after (hostOps1 (F := Ideal)) U (Proc.devRef .tc main_v4) = byBatch (U (Proc.devRef .tc main_v2)) := by
  after_reads_simp
  rfl

/-- The inputs by position, at coordinates. -/
theorem byPos_at (x : S4x32x32x192.Idx → EReal) (p q : Fin 32) (b : Fin 4) (d : Fin 192) :
    byPos x (ix3 ⟨p.val * 32 + q.val, by omega⟩ b d) = x (ix4 b p q d) := by
  unfold byPos
  pointwise

/-- The forms by batch, at coordinates. -/
theorem byBatch_at (x : S1024x4.Idx → EReal) (p q : Fin 32) (b : Fin 4) :
    byBatch x (ix3 b p q) = x (ix2 ⟨p.val * 32 + q.val, by omega⟩ b) := by
  unfold byBatch
  pointwise

/-- A buffer of extended reals, read at an index. -/
def realAt {s : Shape} (x : s.Idx → EReal) (i : s.Idx) : EReal := x i

/-- A buffer of words, read at an index. -/
def wordAt {s : Shape} (w : ℕ) (x : s.Idx → BitVec w) (i : s.Idx) : BitVec w := x i

/-- A triangle weight as the host code computes it. -/
theorem tri_host (p : Fin 32) (i : Fin 512) :
    max 0 (1 - FloatOps.absf (F := Ideal) (φ := .f32)
      ((FloatOps.sitofp (F := Ideal) .f32 (BitVec.ofNat 32 i.val) + Ideal.ofBits .f32 1056964608#32) * Ideal.ofBits .f32 1031798784#32
        - Ideal.ofBits .f32 1056964608#32 - FloatOps.sitofp (F := Ideal) .f32 (BitVec.ofNat 32 p.val))) = ((tri p i : ℝ) : EReal) := by
  rw [sitofp_small _ (by omega), sitofp_small _ (by omega), ofBits_half, ofBits_sixteenth, ← EReal.coe_add, ← EReal.coe_mul,
    ← EReal.coe_sub, ← EReal.coe_sub, absf_real, ← EReal.coe_one, ← EReal.coe_sub, ← EReal.coe_zero, max_real]
  rfl

/-- An unnormalised tap as the host code computes it. -/
theorem bell_host (t : Fin 33) :
    Ideal.exp (Ideal.div (-((FloatOps.sitofp (F := Ideal) .f32 (BitVec.ofNat 32 t.val) - Ideal.ofBits .f32 1098907648#32) *
      (FloatOps.sitofp (F := Ideal) .f32 (BitVec.ofNat 32 t.val) - Ideal.ofBits .f32 1098907648#32))) (Ideal.ofBits .f32 1107296256#32))
      = ((bell t : ℝ) : EReal) := by
  rw [sitofp_small _ (by omega), ofBits_16, ofBits_32, ← EReal.coe_sub, ← EReal.coe_mul, ← EReal.coe_neg,
    div_real (by norm_num), Ideal.exp_coe, bell]
  congr 2; ring

/-- The resize weights. -/
theorem read_v27 (i : Fin 512) (p : Fin 32) :
    realAt (s := S512x32) (StableHlo.after (hostOps1 (F := Ideal)) U (Proc.devRef .tc main_v27)) (ix2 i p) = wgt p i := by
  after_reads_simp
  unfold realAt
  pointwise
  simp only [tri_host]
  rw [← coe_sum_real]
  exact div_real (tot_pos i).ne' _

/-- The blur's taps. -/
theorem read_v38 (t : Fin 33) :
    realAt (s := S33) (StableHlo.after (hostOps1 (F := Ideal)) U (Proc.devRef .tc main_v38)) (ix1 t) = tap t := by
  after_reads_simp
  unfold realAt
  pointwise
  simp only [bell_host]
  rw [← coe_sum_real, div_real bell_tot_pos.ne', tap]

/-- The position a tap reads before it is mirrored, as the host code counts it: 16 less than in the padded map. -/
def word (i : Fin 512) (t : Fin 33) : BitVec 32 := IntOp.addi (IntOp.subi (BitVec.ofNat 32 i.val) 16#32) (BitVec.ofNat 32 t.val)

/-- The unmirrored positions. -/
theorem read_v47 (i : Fin 512) (t : Fin 33) :
    wordAt (s := S512x33) 32 (StableHlo.after (hostOps1 (F := Ideal)) U (Proc.devRef .tc main_v47)) (ix2 i t) = word i t := by
  after_reads_simp
  unfold wordAt
  pointwise
  rfl

/-- Whether a position lies before the map. -/
theorem read_v49 (i : Fin 512) (t : Fin 33) :
    wordAt (s := S512x33) 1 (StableHlo.after (hostOps1 (F := Ideal)) U (Proc.devRef .tc main_v49)) (ix2 i t)
      = IntOp.cmpi .slt (word i t) 0#32 := by
  after_reads_simp
  unfold wordAt
  pointwise
  rfl

/-- The position mirrored at the map's start. -/
theorem read_v50 (i : Fin 512) (t : Fin 33) :
    wordAt (s := S512x33) 32 (StableHlo.after (hostOps1 (F := Ideal)) U (Proc.devRef .tc main_v50)) (ix2 i t) = -word i t := by
  after_reads_simp
  unfold wordAt
  pointwise
  rfl

/-- Whether a position lies past the map. -/
theorem read_v52 (i : Fin 512) (t : Fin 33) :
    wordAt (s := S512x33) 1 (StableHlo.after (hostOps1 (F := Ideal)) U (Proc.devRef .tc main_v52)) (ix2 i t)
      = IntOp.cmpi .sge (word i t) 512#32 := by
  after_reads_simp
  unfold wordAt
  pointwise
  rfl

/-- The position mirrored at the map's end. -/
theorem read_v54 (i : Fin 512) (t : Fin 33) :
    wordAt (s := S512x33) 32 (StableHlo.after (hostOps1 (F := Ideal)) U (Proc.devRef .tc main_v54)) (ix2 i t)
      = IntOp.subi 1022#32 (word i t) := by
  after_reads_simp
  unfold wordAt
  pointwise
  rfl

/-- The choice between a position and its mirror at the map's end. -/
theorem read_v55 (i : Fin 512) (t : Fin 33) :
    wordAt (s := S512x33) 32 (StableHlo.after (hostOps1_1 (F := Ideal)) U (Proc.devRef .tc main_v55)) (ix2 i t)
      = Scalar.select (wordAt (s := S512x33) 1 (U (Proc.devRef .tc main_v52)) (ix2 i t))
          (wordAt (s := S512x33) 32 (U (Proc.devRef .tc main_v54)) (ix2 i t))
          (wordAt (s := S512x33) 32 (U (Proc.devRef .tc main_v47)) (ix2 i t)) := by
  after_reads_simp
  rfl

/-- The choice between that and the mirror at the map's start. -/
theorem read_v56 (i : Fin 512) (t : Fin 33) :
    wordAt (s := S512x33) 32 (StableHlo.after (hostOps1_2 (F := Ideal)) U (Proc.devRef .tc main_v56)) (ix2 i t)
      = Scalar.select (wordAt (s := S512x33) 1 (U (Proc.devRef .tc main_v49)) (ix2 i t))
          (wordAt (s := S512x33) 32 (U (Proc.devRef .tc main_v50)) (ix2 i t))
          (wordAt (s := S512x33) 32 (U (Proc.devRef .tc main_v55)) (ix2 i t)) := by
  after_reads_simp
  rfl

/-- Whether a tap of output `i` reads position `k`. -/
theorem read_v62 (i k : Fin 512) (t : Fin 33) :
    wordAt (s := S512x33x512) 1 (StableHlo.after (hostOps1_3 (F := Ideal)) U (Proc.devRef .tc main_v62)) (ix3 i t k)
      = IntOp.cmpi .eq (wordAt (s := S512x33) 32 (U (Proc.devRef .tc main_v56)) (ix2 i t)) (BitVec.ofNat 32 k.val) := by
  after_reads_simp
  unfold wordAt
  pointwise

/-- The taps under two unit axes. -/
theorem read_v63 (t : Fin 33) :
    realAt (s := S1x33x1) (StableHlo.after (hostOps1_3 (F := Ideal)) U (Proc.devRef .tc main_v63)) (ix3 0 t 0)
      = realAt (s := S33) (U (Proc.devRef .tc main_v38)) (ix1 t) := by
  after_reads_simp
  unfold realAt
  pointwise

/-- The zero the other positions get. -/
theorem read_cst_11 : StableHlo.after (hostOps1_3 (F := Ideal)) U (Proc.devRef .tc main_cst_11) = (constant S_ .f32 0x00000000#32 : FVec Ideal S_ .f32) := by
  after_reads_simp

/-- A chosen tap: the tap where it reads the position, the zero elsewhere. -/
def chosen (hit : S512x33x512.Idx → BitVec 1) (g : S1x33x1.Idx → EReal) (z : S_.Idx → EReal) : S512x33x512.Idx → EReal :=
  select hit (broadcastInDim S512x33x512 ![0, 1, 2] bcast_S1x33x1_S512x33x512_0_1_2 g) (broadcastInDim S512x33x512 ![] bcast_S_S512x33x512 z)

/-- The chosen taps, in the buffer. -/
theorem read_v64 : StableHlo.after (hostOps1_4 (F := Ideal)) U (Proc.devRef .tc main_v64)
     = chosen (U (Proc.devRef .tc main_v62)) (U (Proc.devRef .tc main_v63)) (U (Proc.devRef .tc main_cst_11)) := by
  after_reads_simp
  rfl

/-- A chosen tap at coordinates, for the zero constant. -/
theorem chosen_at (hit : S512x33x512.Idx → BitVec 1) (g : S1x33x1.Idx → EReal) (i k : Fin 512) (t : Fin 33) :
    chosen hit g (constant S_ .f32 0x00000000#32 : FVec Ideal S_ .f32) (ix3 i t k) = Scalar.select (hit (ix3 i t k)) (g (ix3 0 t 0)) 0 := by
  unfold chosen
  pointwise

/-- The matrix from the chosen taps and the resize weights. -/
theorem read_v71 (i : Fin 512) (p : Fin 32) :
    realAt (s := S512x32) (StableHlo.after (hostOps1_5 (F := Ideal)) U (Proc.devRef .tc main_v71)) (ix2 i p)
     = ∑ k : Fin 512, (∑ t : Fin 33, realAt (s := S512x33x512) (U (Proc.devRef .tc main_v64)) (ix3 i t k))
        * realAt (s := S512x32) (U (Proc.devRef .tc main_v27)) (ix2 k p) := by
  after_reads_simp
  unfold realAt
  pointwise

/-- Its transpose. -/
theorem read_v72 (i : Fin 512) (p : Fin 32) :
    realAt (s := S32x512) (StableHlo.after (hostOps1_5 (F := Ideal)) U (Proc.devRef .tc main_v72)) (ix2 p i)
     = ∑ k : Fin 512, (∑ t : Fin 33, realAt (s := S512x33x512) (U (Proc.devRef .tc main_v64)) (ix3 i t k))
        * realAt (s := S512x32) (U (Proc.devRef .tc main_v27)) (ix2 k p) := by
  after_reads_simp
  unfold realAt
  pointwise

/-- The counted position after both choices, by its index in the padded map. -/
theorem mirrored : ∀ r : Fin 544,
    Scalar.select (IntOp.cmpi .slt (BitVec.ofNat 32 r.val - 16#32) 0#32) (-(BitVec.ofNat 32 r.val - 16#32))
      (Scalar.select (IntOp.cmpi .sge (BitVec.ofNat 32 r.val - 16#32) 512#32) (IntOp.subi 1022#32 (BitVec.ofNat 32 r.val - 16#32))
        (BitVec.ofNat 32 r.val - 16#32)) = BitVec.ofNat 32 (mirror r.val) := by
  decide +kernel

/-- The counted position, by its index in the padded map. -/
theorem word_eq (i : Fin 512) (t : Fin 33) : word i t = BitVec.ofNat 32 (t.val + i.val) - 16#32 := by
  apply BitVec.eq_of_toNat_eq
  simp [word, IntOp.addi, IntOp.subi]
  omega

/-- The mirrored positions at coordinates are the blur's. -/
theorem mirrored_src (i : Fin 512) (t : Fin 33) :
    Scalar.select (IntOp.cmpi .slt (word i t) 0#32) (-word i t)
      (Scalar.select (IntOp.cmpi .sge (word i t) 512#32) (IntOp.subi 1022#32 (word i t)) (word i t)) = BitVec.ofNat 32 (src i t).val := by
  rw [word_eq]
  exact mirrored ⟨t.val + i.val, by omega⟩

/-- Two positions' words are equal exactly when the positions are. -/
theorem hit_iff (a k : Fin 512) (x : EReal) :
    Scalar.select (IntOp.cmpi .eq (BitVec.ofNat 32 a.val) (BitVec.ofNat 32 k.val)) x 0 = if a = k then x else 0 := by
  by_cases h : a = k
  · subst h; simp [Scalar.select, IntOp.cmpi]
  · have : BitVec.ofNat 32 a.val ≠ BitVec.ofNat 32 k.val := fun e => h (Fin.ext (by
      have := congrArg BitVec.toNat e
      simp at this
      omega))
    simp [Scalar.select, IntOp.cmpi, beq_eq_false_iff_ne.mpr this, h]

end Cert.KernelIdeal.Read

end
-- ==== Proof.Kernel.lean ====
/- The kernel's two results, from its arguments: the resized map blurred in both directions, and its largest entry. -/
module

public import proofs.«01_k».proof.Proof.Region0
public import proofs.«01_k».proof.Proof.Region1
public import proofs.«01_k».proof.Proof.HostRead

@[expose] public section

set_option maxRecDepth 16384

noncomputable section

namespace Cert.KernelIdeal.Read

open Cert.KernelIdeal Cert.KernelIdeal.Gen Cert.Blur
open Idealize.ShloMosaic Idealize.ShloMosaic.TcCoe Idealize.SL.Sem

variable (m : (ℓ : Loc nD τ sig) → Buf (Elt Ideal) ℓ) (ρ : Dev nD → PrngReg)

/-- A square root of a real number that is not negative is not negative. -/
theorem sqrt_real_nonneg (r : ℝ) (h : 0 ≤ r) : 0 ≤ Ideal.sqrt (r : EReal) := by
  have e : Ideal.sqrt (r : EReal) = ((Real.sqrt r : ℝ) : EReal) := if_neg (not_lt.mpr h)
  rw [e]; exact EReal.coe_nonneg.mpr (Real.sqrt_nonneg _)

/-- A square root taken of a number raised to zero is not negative. -/
theorem sqrt_nonneg (x : EReal) : 0 ≤ Ideal.sqrt (max x 0) := by
  induction x with
  | bot => rw [max_eq_right bot_le, ← EReal.coe_zero]; exact sqrt_real_nonneg 0 le_rfl
  | top => rw [max_eq_left le_top]; exact le_top
  | coe r => rw [← EReal.coe_zero, max_real]; exact sqrt_real_nonneg _ (le_max_right _ _)

/-- The mirrored positions, in their buffer. -/
theorem at_v56 (c : Dev nD) (i : Fin 512) (t : Fin 33) :
    wordAt (s := S512x33) 32 (W5 m ρ c (Proc.devRef .tc main_v56)) (ix2 i t) = BitVec.ofNat 32 (src i t).val := by
  rw [read_v56, W4_of m ρ c main_v49 (by decide), W4_of m ρ c main_v50 (by decide), read_v55, read_v49, read_v50, read_v52, read_v54, read_v47]
  exact mirrored_src i t

/-- A chosen tap, from what its two choices hold. -/
theorem chosen_hit (hit : S512x33x512.Idx → BitVec 1) (g : S1x33x1.Idx → EReal) (i k : Fin 512) (t : Fin 33) (a : Fin 512) (x : EReal)
    (hh : hit (ix3 i t k) = IntOp.cmpi .eq (BitVec.ofNat 32 a.val) (BitVec.ofNat 32 k.val)) (hg : g (ix3 0 t 0) = x) :
    realAt (s := S512x33x512) (chosen hit g (constant S_ .f32 0x00000000#32 : FVec Ideal S_ .f32)) (ix3 i t k) = if a = k then x else 0 := by
  refine (chosen_at hit g i k t).trans ?_
  rw [hh, hg]
  exact hit_iff a k x

/-- A chosen tap: the blur's tap where it reads position `k`. -/
theorem at_v64 (c : Dev nD) (i k : Fin 512) (t : Fin 33) :
    realAt (s := S512x33x512) (W7 m ρ c (Proc.devRef .tc main_v64)) (ix3 i t k) = if src i t = k then tap t else 0 := by
  have e : W7 m ρ c (Proc.devRef .tc main_v64)
      = chosen (W6 m ρ c (Proc.devRef .tc main_v62)) (W6 m ρ c (Proc.devRef .tc main_v63)) (W6 m ρ c (Proc.devRef .tc main_cst_11)) :=
    read_v64 (W6 m ρ c)
  have z : W6 m ρ c (Proc.devRef .tc main_cst_11) = (constant S_ .f32 0x00000000#32 : FVec Ideal S_ .f32) := read_cst_11 (W5 m ρ c)
  have h : wordAt (s := S512x33x512) 1 (W6 m ρ c (Proc.devRef .tc main_v62)) (ix3 i t k)
      = IntOp.cmpi .eq (BitVec.ofNat 32 (src i t).val) (BitVec.ofNat 32 k.val) :=
    (read_v62 (W5 m ρ c) i k t).trans (congrArg (fun w => IntOp.cmpi .eq w (BitVec.ofNat 32 k.val)) (at_v56 m ρ c i t))
  have g : realAt (s := S1x33x1) (W6 m ρ c (Proc.devRef .tc main_v63)) (ix3 0 t 0) = tap t := by
    refine (read_v63 (W5 m ρ c) t).trans ?_
    rw [W5_of m ρ c main_v38 (by decide), W4_of m ρ c main_v38 (by decide)]
    exact read_v38 (W2 m ρ c) t
  rw [e, z]
  exact chosen_hit _ _ i k t (src i t) (tap t) h g

/-- The resize weights reach the matrix. -/
theorem at_v27 (c : Dev nD) (i : Fin 512) (p : Fin 32) :
    realAt (s := S512x32) (W7 m ρ c (Proc.devRef .tc main_v27)) (ix2 i p) = wgt p i := by
  rw [W7_of m ρ c main_v27 (by decide), W6_of m ρ c main_v27 (by decide), W5_of m ρ c main_v27 (by decide), W4_of m ρ c main_v27 (by decide), read_v27]

/-- The matrix the second region reads. -/
theorem at_v71 (c : Dev nD) (i : Fin 512) (p : Fin 32) :
    realAt (s := S512x32) (W8 m ρ c (Proc.devRef .tc main_v71)) (ix2 i p) = mat src tap wgt i p := by
  rw [read_v71]
  refine Finset.sum_congr rfl fun k _ => ?_
  rw [at_v27]
  exact congrArg (· * wgt p k) (Finset.sum_congr rfl fun t _ => at_v64 m ρ c i k t)

/-- Its transpose. -/
theorem at_v72 (c : Dev nD) (i : Fin 512) (p : Fin 32) :
    realAt (s := S32x512) (W8 m ρ c (Proc.devRef .tc main_v72)) (ix2 p i) = mat src tap wgt i p := by
  rw [read_v72]
  refine Finset.sum_congr rfl fun k _ => ?_
  rw [at_v27]
  exact congrArg (· * wgt p k) (Finset.sum_congr rfl fun t _ => at_v64 m ρ c i k t)

/-- The quadratic form at batch `b`, row `p` and column `q`, from the arguments. -/
def form (x : S4x32x32x192.Idx → EReal) (M : S1024x192.Idx → EReal) (C : S1024x192x192.Idx → EReal) (b : Fin 4) (p q : Fin 32) : EReal :=
  ∑ d : Fin 192, (∑ e : Fin 192, (x (ix4 b p q e) - M (ix2 ⟨p.val * 32 + q.val, by omega⟩ e)) * C (ix3 ⟨p.val * 32 + q.val, by omega⟩ e d))
    * (x (ix4 b p q d) - M (ix2 ⟨p.val * 32 + q.val, by omega⟩ d))

/-- The forms the second region reads. -/
theorem at_v4 (c : Dev nD) (b : Fin 4) (p q : Fin 32) :
    realAt (s := S4x32x32) (W8 m ρ c (Proc.devRef .tc main_v4)) (ix3 b p q)
      = form (m ((c.tc : Thread nD τ).loc main_arg0)) (m ((c.tc : Thread nD τ).loc main_arg1)) (m ((c.tc : Thread nD τ).loc main_arg2)) b p q := by
  rw [W8_of m ρ c main_v4 (by decide), W7_of m ρ c main_v4 (by decide), W6_of m ρ c main_v4 (by decide), W5_of m ρ c main_v4 (by decide),
    W4_of m ρ c main_v4 (by decide)]
  have f : W3 m ρ c (Proc.devRef .tc main_v4) = byBatch (W2 m ρ c (Proc.devRef .tc main_v2)) := read_v4 (W2 m ρ c)
  have e : W2 m ρ c (Proc.devRef .tc main_v2)
      = quads (byPos (m ((c.tc : Thread nD τ).loc main_arg0))) (m ((c.tc : Thread nD τ).loc main_arg1)) (m ((c.tc : Thread nD τ).loc main_arg2)) := by
    refine (W2_arr m ρ c 6).trans ((final0 (V1 m ρ) c).trans ?_)
    have e1 : V1 m ρ c main_v1 = byPos (m ((c.tc : Thread nD τ).loc main_arg0)) := read_v1 (W0 m ρ c)
    have e2 : V1 m ρ c main_arg1 = m ((c.tc : Thread nD τ).loc main_arg1) := W1_args m ρ c main_arg1 (by decide)
    have e3 : V1 m ρ c main_arg2 = m ((c.tc : Thread nD τ).loc main_arg2) := W1_args m ρ c main_arg2 (by decide)
    rw [e1, e2, e3]
  rw [f, e]
  refine (byBatch_at _ p q b).trans ?_
  rw [quad_at]
  simp only [byPos_at]
  rfl

/-- The kernel's map: one batch's distances resized and blurred. -/
def blurredBy (x : S4x32x32x192.Idx → EReal) (M : S1024x192.Idx → EReal) (C : S1024x192x192.Idx → EReal) (b : Fin 4) (i j : Fin 512) : EReal :=
  ∑ s, tap s * ∑ t, tap t * resized wgt (fun p q => Ideal.sqrt (max (form x M C b p q) 0)) (src i t) (src j s)

/-- Two products with the matrix are the resize and the blur. -/
theorem sand_blurred (A : S512x32.Idx → EReal) (A' : S32x512.Idx → EReal) (D : Fin 32 → Fin 32 → EReal)
    (hA : ∀ i p, A (ix2 i p) = mat src tap wgt i p) (hA' : ∀ i p, A' (ix2 p i) = mat src tap wgt i p) (i j : Fin 512) :
    sand A A' D i j = ∑ s, tap s * ∑ t, tap t * resized wgt (fun p q => Ideal.sqrt (max (D p q) 0)) (src i t) (src j s) := by
  unfold sand
  simp only [hA, hA']
  exact mat_sandwich src tap wgt (fun p q => Ideal.sqrt (max (D p q) 0)) tap_nonneg wgt_nonneg (fun p q => sqrt_nonneg _) i j

/-- Every map the second region leaves, from the arguments. -/
theorem maps_blurred (c : Dev nD) (b : Fin 4) (i j : Fin 512) :
    sand (V8 m ρ c main_v71) (V8 m ρ c main_v72) (fun p q => realAt (s := S4x32x32) (V8 m ρ c main_v4) (ix3 b p q)) i j
      = blurredBy (m ((c.tc : Thread nD τ).loc main_arg0)) (m ((c.tc : Thread nD τ).loc main_arg1)) (m ((c.tc : Thread nD τ).loc main_arg2)) b i j := by
  refine (sand_blurred _ _ _ (at_v71 m ρ c) (at_v72 m ρ c) i j).trans ?_
  unfold blurredBy
  have e : (fun p q => realAt (s := S4x32x32) (V8 m ρ c main_v4) (ix3 b p q)) = form (m ((c.tc : Thread nD τ).loc main_arg0)) (m ((c.tc : Thread nD τ).loc main_arg1)) (m ((c.tc : Thread nD τ).loc main_arg2)) b :=
    funext fun p => funext fun q => at_v4 m ρ c b p q
  simp only [fun p q => congrFun (congrFun e p) q]

/-- The kernel's first result: each map's largest entry. -/
theorem score_at (c : Dev nD) (b : Fin 4) :
    realAt (s := S4x1) (W10 m ρ c (Proc.devRef .tc main_v73_1)) (ix2 b 0)
      = peak (blurredBy (m ((c.tc : Thread nD τ).loc main_arg0)) (m ((c.tc : Thread nD τ).loc main_arg1)) (m ((c.tc : Thread nD τ).loc main_arg2)) b) := by
  have e : W10 m ρ c (Proc.devRef .tc main_v73_1) = peaks (V8 m ρ c main_v71) (V8 m ρ c main_v72) (V8 m ρ c main_v4) :=
    (W10_of m ρ c main_v73_1 (by decide)).trans ((W9_arr m ρ c 4).trans (final4 (V8 m ρ) c))
  rw [e]
  exact congrArg peak (funext fun i => funext fun j => maps_blurred m ρ c b i j)

/-- The maps under a last unit axis. -/
def withUnit (x : S4x512x512.Idx → EReal) : S4x512x512x1.Idx → EReal := shapeCast S4x512x512x1 x shapeCasts_S4x512x512_S4x512x512x1

/-- The maps under a last unit axis, at coordinates. -/
theorem withUnit_at (x : S4x512x512.Idx → EReal) (b : Fin 4) (i j : Fin 512) : withUnit x (ix4 b i j 0) = x (ix3 b i j) := by
  unfold withUnit
  pointwise

/-- The last stretch leaves the maps under a unit axis. -/
theorem read_v74 (U : Valuation τ sig (Elt Ideal)) :
    StableHlo.after (hostOps2 (F := Ideal)) U (Proc.devRef .tc main_v74) = withUnit (U (Proc.devRef .tc main_v73_0)) := by
  after_reads_simp
  rfl

/-- The kernel's second result: the maps. -/
theorem map_at (c : Dev nD) (b : Fin 4) (i j : Fin 512) :
    realAt (s := S4x512x512x1) (W10 m ρ c (Proc.devRef .tc main_v74)) (ix4 b i j 0)
      = blurredBy (m ((c.tc : Thread nD τ).loc main_arg0)) (m ((c.tc : Thread nD τ).loc main_arg1)) (m ((c.tc : Thread nD τ).loc main_arg2)) b i j := by
  have e : W9 m ρ c (Proc.devRef .tc main_v73_0) = maps (V8 m ρ c main_v71) (V8 m ρ c main_v72) (V8 m ρ c main_v4) :=
    (W9_arr m ρ c 3).trans (final3 (V8 m ρ) c)
  have f : W10 m ρ c (Proc.devRef .tc main_v74) = withUnit (W9 m ρ c (Proc.devRef .tc main_v73_0)) := read_v74 (W9 m ρ c)
  rw [f, e]
  exact (withUnit_at _ b i j).trans (maps_blurred m ρ c b i j)

end Cert.KernelIdeal.Read

end
-- ==== Proof.Run.lean ====
/- The kernel's run, its two results read off the last boundary's contents: the launch is the frame's, its final
   reading extended to the results. -/
module

public import proofs.«01_k».proof.Proof.Gen.KernelIdeal.Frame

@[expose] public section

set_option maxRecDepth 16384

noncomputable section

namespace Cert.KernelIdeal.Read

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with its results at the last boundary's contents and its arguments as they were. -/
theorem results : θ_run defs (onTc (τ := τ) (main (F := F))) ⟨m, fun _ => 0, ρ⟩ (fun r => ∀ c : Dev nD,
      r.2.mem ((c.tc : Thread nD τ).loc main_v73_1) = W10 m ρ c (Proc.devRef .tc main_v73_1)
      ∧ r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => fun c =>
      ⟨h c _ (mem_uc main_v73_1 (by decide)),
       h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c)⟩)

end Cert.KernelIdeal.Read

end
-- ==== Proof.RefRead.lean ====
/- What the reference computes, read at an index: its resize weights, its blur taps, the standardised distances, and
   the resized map blurred down its columns and along its rows. -/
module

public import proofs.«01_k».proof.Proof.Gen.ReferenceIdeal.Run
public import proofs.«01_k».proof.Proof.Weights
public import Idealize.ShloMosaic.Lib.Pointwise

@[expose] public section

set_option maxRecDepth 16384

noncomputable section

namespace Cert.ReferenceIdeal.Read

open Cert.ReferenceIdeal Cert.ReferenceIdeal.Gen Cert.ReferenceIdeal.Value Cert.Blur
open Idealize.ShloMosaic Idealize.ShloMosaic.TcCoe Idealize.SL.Sem

variable (V0 : Valuation τ sig (Elt Ideal))

/-- The sample positions. -/
theorem v19_apply (o : Fin 512) : res_main_v19 V0 (ix1 o) = ((pos o : ℝ) : EReal) := by
  unfold res_main_v19
  pointwise
  rw [sitofp_small _ (by omega), ofBits_half, ofBits_sixteenth]
  norm_cast

/-- The triangle weights. -/
theorem v34_apply (p : Fin 32) (o : Fin 512) : res_main_v34 V0 (ix2 p o) = ((tri p o : ℝ) : EReal) := by
  unfold res_main_v34
  simp only [id]
  pointwise
  simp only [v19_apply]
  rw [sitofp_small _ (by omega), ofBits_sixteenth, ← EReal.coe_sub, absf_real, ← EReal.coe_one, max_real,
    max_eq_right (by norm_num : (1 / 16 : ℝ) ≤ 1), div_real one_ne_zero, div_one, absf_real, abs_abs, ← EReal.coe_sub,
    ← EReal.coe_zero, max_real, tri]

/-- The triangle weights' total. -/
theorem v36_apply (o : Fin 512) : res_main_v36 V0 (ix2 0 o) = ((tot o : ℝ) : EReal) := by
  unfold res_main_v36
  pointwise
  simp only [v34_apply]
  exact (coe_sum_real Finset.univ fun p => tri p o).symm

/-- The second axis's sample positions. -/
theorem v67_apply (o : Fin 512) : res_main_v67 V0 (ix1 o) = ((pos o : ℝ) : EReal) := v19_apply V0 o
/-- The second axis's triangle weights. -/
theorem v82_apply (p : Fin 32) (o : Fin 512) : res_main_v82 V0 (ix2 p o) = ((tri p o : ℝ) : EReal) := v34_apply V0 p o
/-- The second axis's total. -/
theorem v84_apply (o : Fin 512) : res_main_v84 V0 (ix2 0 o) = ((tot o : ℝ) : EReal) := v36_apply V0 o

/-- The bell. -/
theorem v116_apply (t : Fin 33) : res_main_v116 V0 (ix1 t) = ((bell t : ℝ) : EReal) := by
  unfold res_main_v116 res_main_v111
  pointwise
  rw [sitofp_small _ (by omega), ofBits_16, ofBits_32, ← EReal.coe_sub, ← EReal.coe_mul, ← EReal.coe_neg,
    div_real (by norm_num), Ideal.exp_coe, bell]
  congr 2; ring

/-- The blur's taps. -/
theorem v119_apply (t : Fin 33) : res_main_v119 V0 (ix1 t) = tap t := by
  unfold res_main_v119
  pointwise
  simp only [v116_apply]
  rw [← coe_sum_real, div_real bell_tot_pos.ne', tap]

/-- The difference from the mean of batch `b` at position `n` and feature `d`. -/
def delta (b : Fin 4) (n : Fin 1024) (d : Fin 192) : EReal := res_main_v3 V0 (ix3 b n d)

/-- The inverse covariance of position `n`. -/
def icov (n : Fin 1024) (c d : Fin 192) : EReal := V0 (Proc.devRef .tc main_arg2) (ix3 n c d)

/-- The distance of batch `b` at row `p` and column `q`: the square root of the quadratic form of its difference. -/
def dist (b : Fin 4) (p q : Fin 32) : EReal :=
  Ideal.sqrt (max (∑ d : Fin 192, delta V0 b ⟨p.val * 32 + q.val, by omega⟩ d *
    ∑ c : Fin 192, icov V0 ⟨p.val * 32 + q.val, by omega⟩ c d * delta V0 b ⟨p.val * 32 + q.val, by omega⟩ c) 0)

/-- No sample lies outside the small map. -/
theorem inside (o : Fin 512) :
    IntOp.andi (BitVec.ofBool (decide (Ideal.ofBits FTy.f32 3204448256#32 ≤ ((pos o : ℝ) : EReal))))
      (BitVec.ofBool (decide (((pos o : ℝ) : EReal) ≤ Ideal.ofBits FTy.f32 1107034112#32))) = 1#1 := by
  rw [ofBits_neg_half, ofBits_last, decide_eq_true (EReal.coe_le_coe_iff.mpr (pos_ge o)),
    decide_eq_true (EReal.coe_le_coe_iff.mpr (pos_le o))]
  rfl

/-- A selected resize weight is the weight itself: no total is small. -/
theorem ratio (p : Fin 32) (o : Fin 512) :
    (if Ideal.ofBits FTy.f32 955908096#32 < FloatOps.absf (F := Ideal) (φ := .f32) ((tot o : ℝ) : EReal) then
        Ideal.div ((tri p o : ℝ) : EReal) (if ((tot o : ℝ) : EReal) ≠ 0 then ((tot o : ℝ) : EReal) else 1) else 0)
      = wgt p o := by
  have h0 : ((tot o : ℝ) : EReal) ≠ 0 := by
    rw [← EReal.coe_zero, Ne, EReal.coe_eq_coe_iff]; exact (tot_pos o).ne'
  rw [ofBits_small, absf_real, if_pos h0, div_real (tot_pos o).ne', if_pos, wgt]
  exact EReal.coe_lt_coe_iff.mpr (lt_of_lt_of_le (by norm_num) ((tot_ge o).trans (le_abs_self _)))

/-- A selection whose condition is true. -/
theorem select_one (a b : EReal) : Scalar.select 1#1 a b = a := rfl

/-- The resized map. -/
theorem v108_apply (b : Fin 4) (o₁ o₂ : Fin 512) :
    res_main_v108 V0 (ix4 b o₁ o₂ 0) = resized wgt (dist V0 b) o₁ o₂ := by
  unfold res_main_v108
  pointwise
  simp only [v19_apply, v34_apply, v36_apply, v67_apply, v82_apply, v84_apply, inside, select_one, ratio, dist, resized, delta, icov]

/-- The resized map padded along its columns with 16 mirrored positions on either side. -/
theorem v120_apply (b : Fin 4) (r : Fin 544) (o : Fin 512) :
    res_main_v120 V0 (ix4 b r o 0) = res_main_v108 V0 (ix4 b ⟨mirror r.val, mirror_lt r.isLt⟩ o 0) := by
  unfold res_main_v120 res_main_call0_v3
  pointwise
  simp
  have hr := r.isLt
  split_ifs <;> exact congrArg (fun q : Fin 512 => res_main_v108 V0 (ix4 b q o 0))
    (Fin.ext (by
      dsimp only
      first | rw [mirror_lo (by omega)] | rw [mirror_mid (by omega) (by omega)] | rw [mirror_hi (by omega)]
      all_goals omega))

/-- The map blurred down its columns. -/
theorem v319_apply (b : Fin 4) (i j : Fin 512) :
    res_main_v319 V0 (ix4 b i j 0) = ∑ t : Fin 33, tap t * resized wgt (dist V0 b) (src i t) j := by
  unfold res_main_v319 res_main_v301 res_main_v211
  pointwise
  rw [Finset.sum_fin_eq_sum_range]
  simp only [Finset.sum_range_succ, Finset.sum_range_zero]
  simp
  simp only [v119_apply, v120_apply, v108_apply]
  rw [src_zero]
  rfl

/-- The column-blurred map padded along its rows with 16 mirrored positions on either side. -/
theorem v320_apply (b : Fin 4) (i : Fin 512) (r : Fin 544) :
    res_main_v320 V0 (ix4 b i r 0) = res_main_v319 V0 (ix4 b i ⟨mirror r.val, mirror_lt r.isLt⟩ 0) := by
  unfold res_main_v320 res_main_call1_v3
  pointwise
  simp
  have hr := r.isLt
  split_ifs <;> exact congrArg (fun q : Fin 512 => res_main_v319 V0 (ix4 b i q 0)) (Fin.ext (by
      dsimp only
      first | rw [mirror_lo (by omega)] | rw [mirror_mid (by omega) (by omega)] | rw [mirror_hi (by omega)]
      all_goals omega))

/-- The whole map, by the reference: the resized map blurred down its columns and then along its rows. -/
def blurred (b : Fin 4) (i j : Fin 512) : EReal :=
  ∑ s : Fin 33, tap s * ∑ t : Fin 33, tap t * resized wgt (dist V0 b) (src i t) (src j s)

/-- The reference's second result, as its run states it. -/
def map : FVec Ideal S4x512x512x1 .f32 :=
  addf (addf (addf (res_main_v501 V0) (mulf (broadcastInDim S4x512x512x1 ![] bcast_S_S4x512x512x1 (shapeCast _ (extractStridedSlice S1 ![30] (res_main_v119 V0) slices_S33_S1_30) shapeCasts_S1_S_)) (extractStridedSlice S4x512x512x1 ![0, 0, 30, 0] (res_main_v320 V0) slices_S4x512x544x1_S4x512x512x1_0_0_30_0))) (mulf (broadcastInDim S4x512x512x1 ![] bcast_S_S4x512x512x1 (shapeCast _ (extractStridedSlice S1 ![31] (res_main_v119 V0) slices_S33_S1_31) shapeCasts_S1_S_)) (extractStridedSlice S4x512x512x1 ![0, 0, 31, 0] (res_main_v320 V0) slices_S4x512x544x1_S4x512x512x1_0_0_31_0))) (mulf (broadcastInDim S4x512x512x1 ![] bcast_S_S4x512x512x1 (shapeCast _ (extractStridedSlice S1 ![32] (res_main_v119 V0) slices_S33_S1_32) shapeCasts_S1_S_)) (extractStridedSlice S4x512x512x1 ![0, 0, 32, 0] (res_main_v320 V0) slices_S4x512x544x1_S4x512x512x1_0_0_32_0))

/-- The second result at an index. -/
theorem map_apply (b : Fin 4) (i j : Fin 512) : map V0 (ix4 b i j 0) = blurred V0 b i j := by
  unfold map res_main_v501 res_main_v411 blurred
  pointwise
  rw [Finset.sum_fin_eq_sum_range]
  simp only [Finset.sum_range_succ, Finset.sum_range_zero]
  simp
  simp only [v119_apply, v320_apply, v319_apply]
  rw [src_zero j]
  rfl

/-- The reference's first result, as its run states it. -/
def score : FVec Ideal S4x1 .f32 :=
  broadcastInDim S4x1 ![0] bcast_S4_S4x1_0 (Host.reduce FloatOps.maximumf (map V0) (constant S_ .f32 0xFF800000#32) reducesTo_S4x512x512x1_S4_d1_2_3 h_S_)

/-- An index of the map is one of the reduction's group `b` when its first coordinate is `b`. -/
theorem mem_group (b a : Fin 4) (i j : Fin 512) (k : Fin 1) :
    reducesTo_S4x512x512x1_S4_d1_2_3.drop (ix4 a i j k) = ix1 b ↔ a = b := by
  have e : (reducesTo_S4x512x512x1_S4_d1_2_3.drop (ix4 a i j k) 0).val = a.val :=
    Shape.ReducesTo.drop_apply_val_of_eq (s := S4x512x512x1) reducesTo_S4x512x512x1_S4_d1_2_3 (ix4 a i j k) 0 0
  constructor
  · intro h; rw [h] at e; exact Fin.ext e.symm
  · rintro rfl; funext d; fin_cases d; exact Fin.ext e

/-- The largest entry of one of the reduction's groups. -/
theorem fold_group (f : S4x512x512x1.Idx → EReal) (b : Fin 4) :
    Finset.fold max ⊥ f {i | reducesTo_S4x512x512x1_S4_d1_2_3.drop i = ix1 b} = peak fun i j => f (ix4 b i j 0) := by
  show Finset.sup _ f = _
  refine le_antisymm (Finset.sup_le fun x hx => ?_) (Finset.sup_le fun p _ => ?_)
  · idx_vars x
    obtain rfl := (mem_group b x0 x1 x2 x3).mp (Finset.mem_filter.mp hx).2
    rw [Subsingleton.elim x3 0]
    exact Finset.le_sup (f := fun p : Fin 512 × Fin 512 => f (ix4 x0 p.1 p.2 0)) (Finset.mem_univ (x1, x2))
  · exact Finset.le_sup (f := f) (Finset.mem_filter.mpr ⟨Finset.mem_univ _, (mem_group b b p.1 p.2 0).mpr rfl⟩)

/-- The first result at `b` is the map's largest entry. -/
theorem score_apply (b : Fin 4) : score V0 (ix2 b 0) = peak (blurred V0 b) := by
  unfold score
  pointwise
  rw [ofBits_neg_inf, fold_group]
  simp only [map_apply]

/-- The reference's run, its results at these readings. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v521) = score (StableHlo.launchContents m c)
      ∧ r.2.mem ((c.tc : Thread nD τ).loc main_v519) = map (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.ReferenceIdeal.Read

end
-- ==== Proof.Equal.lean ====
/- The two programs' results are equal: both are the distances resized and blurred, the quadratic form of the one being
   that of the other with its factors exchanged. -/
module

public import proofs.«01_k».proof.Defs
public import proofs.«01_k».proof.Proof.Kernel
public import proofs.«01_k».proof.Proof.Run
public import proofs.«01_k».proof.Proof.RefRead

@[expose] public section

set_option maxRecDepth 16384

noncomputable section

namespace Cert.Blur

open Idealize.ShloMosaic Idealize.ShloMosaic.TcCoe Idealize.SL.Sem

variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal))

/-- The reference's difference from the mean, from its arguments. -/
theorem delta_at (x : Cert.KernelIdeal.S4x32x32x192.Idx → EReal) (M : Cert.KernelIdeal.S1024x192.Idx → EReal)
    (h0 : V0 (Proc.devRef .tc Cert.ReferenceIdeal.main_arg0) = x) (h1 : V0 (Proc.devRef .tc Cert.ReferenceIdeal.main_arg1) = M)
    (b : Fin 4) (p q : Fin 32) (d : Fin 192) :
    Cert.ReferenceIdeal.Read.delta V0 b ⟨p.val * 32 + q.val, by omega⟩ d
      = x (ix4 b p q d) - M (ix2 ⟨p.val * 32 + q.val, by omega⟩ d) := by
  subst h0 h1
  unfold Cert.ReferenceIdeal.Read.delta Cert.ReferenceIdeal.Value.res_main_v3
  pointwise

/-- The reference's distance is the kernel's. -/
theorem dist_form (x : Cert.KernelIdeal.S4x32x32x192.Idx → EReal) (M : Cert.KernelIdeal.S1024x192.Idx → EReal)
    (C : Cert.KernelIdeal.S1024x192x192.Idx → EReal)
    (h0 : V0 (Proc.devRef .tc Cert.ReferenceIdeal.main_arg0) = x) (h1 : V0 (Proc.devRef .tc Cert.ReferenceIdeal.main_arg1) = M)
    (h2 : V0 (Proc.devRef .tc Cert.ReferenceIdeal.main_arg2) = C) (b : Fin 4) (p q : Fin 32) :
    Cert.ReferenceIdeal.Read.dist V0 b p q = Ideal.sqrt (max (Cert.KernelIdeal.Read.form x M C b p q) 0) := by
  unfold Cert.ReferenceIdeal.Read.dist Cert.KernelIdeal.Read.form
  simp only [delta_at V0 x M h0 h1]
  congr 2
  refine Finset.sum_congr rfl fun d _ => ?_
  rw [mul_comm]
  congr 1
  refine Finset.sum_congr rfl fun e _ => ?_
  rw [mul_comm]
  congr 1
  subst h2
  rfl

/-- The reference's blurred map is the kernel's. -/
theorem blurred_eq (x : Cert.KernelIdeal.S4x32x32x192.Idx → EReal) (M : Cert.KernelIdeal.S1024x192.Idx → EReal)
    (C : Cert.KernelIdeal.S1024x192x192.Idx → EReal)
    (h0 : V0 (Proc.devRef .tc Cert.ReferenceIdeal.main_arg0) = x) (h1 : V0 (Proc.devRef .tc Cert.ReferenceIdeal.main_arg1) = M)
    (h2 : V0 (Proc.devRef .tc Cert.ReferenceIdeal.main_arg2) = C) (b : Fin 4) :
    Cert.ReferenceIdeal.Read.blurred V0 b = Cert.KernelIdeal.Read.blurredBy x M C b := by
  have e : Cert.ReferenceIdeal.Read.dist V0 b = fun p q => Ideal.sqrt (max (Cert.KernelIdeal.Read.form x M C b p q) 0) :=
    funext fun p => funext fun q => dist_form V0 x M C h0 h1 h2 b p q
  funext i j
  unfold Cert.ReferenceIdeal.Read.blurred Cert.KernelIdeal.Read.blurredBy
  rw [e]

/-- The two programs end with the same results and leave their arguments as they were. -/
theorem algebraic : Cert.algebraic_KernelIdeal_ReferenceIdeal (hKernelIdeal := Cert.KernelIdeal.Gen.facts) (hReferenceIdeal := Cert.ReferenceIdeal.Gen.facts) := by
  intro m ρ m' ρ' _ hag
  refine ⟨fun c => Cert.KernelIdeal.Gen.W10 m ρ c (Proc.devRef .tc Cert.KernelIdeal.main_v73_1),
    fun c => Cert.KernelIdeal.Gen.W10 m ρ c (Proc.devRef .tc Cert.KernelIdeal.main_v74),
    Cert.KernelIdeal.Read.results m ρ, (θ_run _ _ _).mono (fun _ h c => ?_) (Cert.ReferenceIdeal.Read.run m' ρ')⟩
  obtain ⟨hs, hm, hr⟩ := h c
  obtain ⟨h0, h1, h2⟩ := hag c
  have e := blurred_eq (StableHlo.launchContents m' c) _ _ _ h0 h1 h2
  refine ⟨hs.trans ?_, hm.trans ?_, hr⟩
  · funext i
    idx_vars i
    obtain rfl : i1 = 0 := Subsingleton.elim _ _
    exact (Cert.ReferenceIdeal.Read.score_apply _ i0).trans ((congrArg peak (e i0)).trans (Cert.KernelIdeal.Read.score_at m ρ c i0).symm)
  · funext i
    idx_vars i
    obtain rfl : i3 = 0 := Subsingleton.elim _ _
    exact (Cert.ReferenceIdeal.Read.map_apply _ i0 i1 i2).trans ((congrFun (congrFun (e i0) i1) i2).trans (Cert.KernelIdeal.Read.map_at m ρ c i0 i1 i2).symm)

end Cert.Blur

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel runs and leaves its arguments as they were. -/
theorem frame_kernel : Cert.quiescent_Kernel := fun m ρ _ => Cert.Kernel.Gen.frame m ρ

/-- The idealized kernel runs and leaves its arguments as they were. -/
theorem frame_kernelIdeal : Cert.quiescent_KernelIdeal := fun m ρ _ => Cert.KernelIdeal.Gen.frame m ρ

/-- The idealized reference runs and leaves its arguments as they were. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Everything claimed: the three frames, no rewrite to answer for, and the equality of the results. -/
theorem claim : Cert.Claim :=
  ⟨Cert.Kernel.Gen.facts, Cert.KernelIdeal.Gen.facts, Cert.ReferenceIdeal.Gen.facts,
    frame_kernel, frame_kernelIdeal, frame_reference, trivial, Cert.Blur.algebraic⟩

end Cert.Proof

end
